-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "below_all" .f32 0xFF61B1E6#32 ⊥

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_apart : Cert.Pre_apart.Facts),
    quiescent_Kernel (hKernel := hKernel)
    ∧ quiescent_KernelIdeal (hKernelIdeal := hKernelIdeal)
    ∧ quiescent_KernelIdeal_pre_apart (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal_pre_apart (hKernelIdeal := hKernelIdeal) (hReferenceIdeal := hReferenceIdeal) (hPre_apart := hPre_apart)
-- ==== Pre_apart.lean ====
abbrev S128x32768 : Shape := ⟨2, ![128, 32768]⟩
abbrev S_ : Shape := ⟨0, ![]⟩
abbrev S32768 : Shape := ⟨1, ![32768]⟩
abbrev S1x32768 : Shape := ⟨2, ![1, 32768]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

class Facts : Prop where
  bcast_S_S_ : S_.BroadcastsInDim S_ (![] : Fin 0 → Fin S_.rank)
  reduceWindows_S128x32768_S128x32768_w1s1p0_0_w32768s1p32767_0 : S128x32768.ReduceWindows (![1, 32768] : Fin 2 → Nat) ![1, 1] ![0, 32767] ![0, 0] S128x32768
  h_S_ : 0 < S_.numel
  bcast_S_S32768 : S_.BroadcastsInDim S32768 (![] : Fin 0 → Fin S32768.rank)
  bcast_S_S128x32768 : S_.BroadcastsInDim S128x32768 (![] : Fin 0 → Fin S128x32768.rank)
  bcast_S32768_S1x32768_1 : S32768.BroadcastsInDim S1x32768 (![1] : Fin 1 → Fin S1x32768.rank)
  bcast_S1x32768_S128x32768_0_1 : S1x32768.BroadcastsInDim S128x32768 (![0, 1] : Fin 2 → Fin S128x32768.rank)
  natLt_1_32 : 1 < 32
  reducesTo_S128x32768_S128_d1 : S128x32768.ReducesTo [1] S128
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  shapeCasts_S128x1_S128 : S128x1.ShapeCasts S128
  bcast_S128x1_S128x32768_0_1 : S128x1.BroadcastsInDim S128x32768 (![0, 1] : Fin 2 → Fin S128x32768.rank)
  gather_S128x32768_S128x1x1_S128x1_n_1_0_0_1_2_11_wf : GatherDims.WF S128x32768 S128x1x1 S128x1 [] [1] [0] [1] [0] 2 ![1, 1]

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def gather_S128x32768_S128x1x1_S128x1_n_1_0_0_1_2_11 : GatherDims S128x32768 S128x1x1 S128x1 where
  offsetDims := []
  collapsedSliceDims := [1]
  operandBatchingDims := [0]
  startIndicesBatchingDims := [0]
  startIndexMap := [1]
  indexVectorDim := 2
  sliceSizes := ![1, 1]
  wf := gather_S128x32768_S128x1x1_S128x1_n_1_0_0_1_2_11_wf

def fn_sort {F : FTy → Type} [FloatOps F] (arg0 : FVec F S128x32768 .f32) : FVec F S128x32768 .f32 :=
  let v0 : FVec F S128x32768 .f32 := (fun x => Host.sort S128x32768 1 comparator_f32_d1 x) arg0
  v0

def fn_cumsum_0 {F : FTy → Type} [FloatOps F] (arg0 : FVec F S128x32768 .f32) : FVec F S128x32768 .f32 :=
  let cst : FVec F S_ .f32 := constant S_ .f32 0x00000000#32
  let v0 : FVec F S_ .f32 := broadcastInDim S_ ![] bcast_S_S_ cst
  let v1 : FVec F S128x32768 .f32 := (fun x v => Host.reduceWindowAdd ![1, 32768] ![1, 1] ![0, 32767] ![0, 0] x v reduceWindows_S128x32768_S128x32768_w1s1p0_0_w32768s1p32767_0 h_S_) arg0 v0
  v1

def fn_cumsum {F : FTy → Type} [FloatOps F] (arg0 : FVec F S128x32768 .f32) : FVec F S128x32768 .f32 :=
  let v0 : FVec F S128x32768 .f32 := fn_cumsum_0 (F := F) arg0
  v0

def fn_take_along_axis {F : FTy → Type} [FloatOps F] (arg0 : FVec F S128x32768 .f32) (arg1 : IVec S128x1 32) : FVec F S128x1 .f32 :=
  let c : IVec S_ 32 := constantI S_ 32 0#32
  let v0 : IVec S128x1 32 := broadcastInDim S128x1 ![] bcast_S_S128x1 c
  let v1 : IVec S128x1 1 := cmpi .slt arg1 v0
  let c_0 : IVec S_ 32 := constantI S_ 32 32768#32
  let v2 : IVec S128x1 32 := broadcastInDim S128x1 ![] bcast_S_S128x1 c_0
  let v3 : IVec S128x1 32 := addi arg1 v2
  let v4 : IVec S128x1 32 := select v1 v3 arg1
  let v5 : IVec S128x1x1 32 := shapeCast S128x1x1 v4 shapeCasts_S128x1_S128x1x1
  let c_1 : IVec S1 32 := constantI S1 32 32767#32
  let c_2 : IVec S_ 32 := constantI S_ 32 0#32
  let v6 : IVec S128x1x1 32 := broadcastInDim S128x1x1 ![] bcast_S_S128x1x1 c_2
  let v7 : IVec S128x1x1 1 := cmpi .sge v5 v6
  let v8 : IVec S1x1x1 32 := broadcastInDim S1x1x1 ![2] bcast_S1_S1x1x1_2 c_1
  let v9 : IVec S128x1x1 32 := broadcastInDim S128x1x1 ![0, 1, 2] bcast_S1x1x1_S128x1x1_0_1_2 v8
  let v10 : IVec S128x1x1 1 := cmpi .sle v5 v9
  let v11 : IVec S128x1x1 1 := andi v7 v10
  let c_3 : IVec S_ 1 := constantI S_ 1 1#1
  let v12 : IVec S128x1 1 := (fun x v => Host.reduce IntOp.andi x v reducesTo_S128x1x1_S128x1_d2 h_S_) v11 c_3
  let v13 : FVec F S128x1 .f32 := (fun x i => Host.gather gather_S128x32768_S128x1x1_S128x1_n_1_0_0_1_2_11 x i) arg0 v5
  let cst : FVec F S_ .f32 := constant S_ .f32 0x7FC00000#32
  let v14 : FVec F S128x1 .f32 := broadcastInDim S128x1 ![] bcast_S_S128x1 cst
  let v15 : FVec F S128x1 .f32 := select v12 v13 v14
  v15

def fn_part2 {F : FTy → Type} [FloatOps F] (main_v31 : IVec S128x32768 1) (main_v38 : IVec S128x32768 1) : IVec S128x32768 1 :=
  let main_v39 : IVec S128x32768 1 := andi main_v31 main_v38
  main_v39

def fn_part1 {F : FTy → Type} [FloatOps F] (main_arg0 : FVec F S128x32768 .f32) (main_v3 : FVec F S128x32768 .f32) (main_v18 : IVec S128 32) : IVec S128x32768 1 :=
  let main_c_3 : IVec S_ 32 := constantI S_ 32 1#32
  let main_v19 : IVec S128 32 := broadcastInDim S128 ![] bcast_S_S128 main_c_3
  let main_v20 : IVec S128 32 := subi main_v18 main_v19
  let main_v21 : IVec S128x1 32 := broadcastInDim S128x1 ![0] bcast_S128_S128x1_0 main_v20
  let main_v22 : FVec F S128x1 .f32 := fn_take_along_axis (F := F) main_v3 main_v21
  let main_v23 : FVec F S128 .f32 := shapeCast S128 main_v22 shapeCasts_S128x1_S128
  let main_cst_4 : FVec F S_ .f32 := constant S_ .f32 0x3F800000#32
  let main_v24 : FVec F S128 .f32 := broadcastInDim S128 ![] bcast_S_S128 main_cst_4
  let main_v25 : FVec F S128 .f32 := subf main_v23 main_v24
  let main_v26 : FVec F S128 .f32 := sitofp .f32 main_v18
  let main_v27 : FVec F S128 .f32 := Host.divf main_v25 main_v26
  let main_v28 : FVec F S128x1 .f32 := broadcastInDim S128x1 ![0] bcast_S128_S128x1_0 main_v27
  let main_v29 : FVec F S128x32768 .f32 := Host.absf main_arg0
  let main_cst_5 : FVec F S_ .f32 := constant S_ .f32 0x7F800000#32
  let main_v30 : FVec F S128x32768 .f32 := broadcastInDim S128x32768 ![] bcast_S_S128x32768 main_cst_5
  let main_v31 : IVec S128x32768 1 := cmpf .olt main_v29 main_v30
  let main_v32 : FVec F S128x32768 .f32 := broadcastInDim S128x32768 ![0, 1] bcast_S128x1_S128x32768_0_1 main_v28
  let main_v33 : IVec S128x32768 1 := cmpf .oge main_arg0 main_v32
  let main_cst_6 : FVec F S_ .f32 := constant S_ .f32 0x33800000#32
  let main_v34 : FVec F S128x32768 .f32 := broadcastInDim S128x32768 ![] bcast_S_S128x32768 main_cst_6
  let main_v35 : FVec F S128x32768 .f32 := addf main_arg0 main_v34
  let main_v36 : FVec F S128x32768 .f32 := broadcastInDim S128x32768 ![0, 1] bcast_S128x1_S128x32768_0_1 main_v28
  let main_v37 : IVec S128x32768 1 := cmpf .ole main_v35 main_v36
  let main_v38 : IVec S128x32768 1 := ori main_v33 main_v37
  fn_part2 (F := F) main_v31 main_v38

def fn {F : FTy → Type} [FloatOps F] (main_arg0 : FVec F S128x32768 .f32) : IVec S128x32768 1 :=
  let main_v0 : FVec F S128x32768 .f32 := Host.negf main_arg0
  let main_v1 : FVec F S128x32768 .f32 := fn_sort (F := F) main_v0
  let main_v2 : FVec F S128x32768 .f32 := Host.negf main_v1
  let main_v3 : FVec F S128x32768 .f32 := fn_cumsum (F := F) main_v2
  let main_v4 : FVec F S32768 .f32 := sitofp .f32 (iotaInDim S32768 32 0)
  let main_cst : FVec F S_ .f32 := constant S_ .f32 0x3F800000#32
  let main_v5 : FVec F S32768 .f32 := broadcastInDim S32768 ![] bcast_S_S32768 main_cst
  let main_v6 : FVec F S32768 .f32 := addf main_v5 main_v4
  let main_cst_0 : FVec F S_ .f32 := constant S_ .f32 0x3F800000#32
  let main_v7 : FVec F S128x32768 .f32 := broadcastInDim S128x32768 ![] bcast_S_S128x32768 main_cst_0
  let main_v8 : FVec F S128x32768 .f32 := subf main_v3 main_v7
  let main_v9 : FVec F S1x32768 .f32 := broadcastInDim S1x32768 ![1] bcast_S32768_S1x32768_1 main_v6
  let main_v10 : FVec F S128x32768 .f32 := broadcastInDim S128x32768 ![0, 1] bcast_S1x32768_S128x32768_0_1 main_v9
  let main_v11 : FVec F S128x32768 .f32 := Host.divf main_v8 main_v10
  let main_v12 : FVec F S128x32768 .f32 := subf main_v2 main_v11
  let main_cst_1 : FVec F S_ .f32 := constant S_ .f32 0x00000000#32
  let main_v13 : FVec F S128x32768 .f32 := broadcastInDim S128x32768 ![] bcast_S_S128x32768 main_cst_1
  let main_v14 : IVec S128x32768 1 := cmpf .ogt main_v12 main_v13
  let main_v15 : IVec S128x32768 32 := (extui 32 · natLt_1_32) main_v14
  let main_c : IVec S_ 32 := constantI S_ 32 0#32
  let main_v16 : IVec S128 32 := (fun x v => Host.reduce IntOp.addi x v reducesTo_S128x32768_S128_d1 h_S_) main_v15 main_c
  let main_c_2 : IVec S_ 32 := constantI S_ 32 1#32
  let main_v17 : IVec S128 32 := broadcastInDim S128 ![] bcast_S_S128 main_c_2
  let main_v18 : IVec S128 32 := maxsi main_v16 main_v17
  fn_part1 (F := F) main_arg0 main_v3 main_v18
-- ==== Kernel.lean ====
abbrev S128x32768 : Shape := ⟨2, ![128, 32768]⟩
abbrev S32768 : Shape := ⟨1, ![32768]⟩
abbrev S_ : Shape := ⟨0, ![]⟩
abbrev S1x32768 : Shape := ⟨2, ![1, 32768]⟩
abbrev S16 : Shape := ⟨1, ![16]⟩
abbrev S1 : Shape := ⟨1, ![1]⟩

abbrev nBuf : Table → Nat
  | .hbm => 2
  | .local .scVector .vmem => 3
  | _ => 0

abbrev bufTy : (tb : Table) → Fin (nBuf tb) → BufTy
  | .hbm, ⟨0, _⟩ => ⟨S128x32768, .f32⟩
  | .hbm, ⟨1, _⟩ => ⟨S128x32768, .f32⟩
  | .local .scVector .vmem, ⟨0, _⟩ => ⟨S32768, .f32⟩
  | .local .scVector .vmem, ⟨1, _⟩ => ⟨S32768, .f32⟩
  | .local .scVector .vmem, ⟨2, _⟩ => ⟨S32768, .f32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_3 : BitVec 32 := 0#32
  let v11 : BitVec 32 := Scalar.addi v2 c0_i32_3
  let c1_i32 : BitVec 32 := 1#32
  let v12 : BitVec 32 := Scalar.addi v11 c1_i32
  let c0_i32_4 : BitVec 32 := 0#32
  ![v12.toNat, 0]
@[reducible] def k0_t1_loop : Scf.Loop 32 :=
  let c0_i32_6 : BitVec 32 := 0#32
  let c256_i32 : BitVec 32 := 256#32
  let v19 : BitVec 32 := Scalar.addi c0_i32_6 c256_i32
  let c1_i32_7 : BitVec 32 := 1#32
  ⟨c0_i32_6, v19, c1_i32_7⟩
def k0_off3 (k0_t1 : Fin k0_t1_loop.trips) (c0_i32_163 : BitVec 32) : Fin 1 → Nat :=
  let c0_i32_162 : BitVec 32 := 0#32
  let c0_i32_6 : BitVec 32 := 0#32
  let c1_i32_7 : BitVec 32 := 1#32
  let arg11 : BitVec 32 := Scf.iv c0_i32_6 c1_i32_7 k0_t1
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
@[reducible] def k0_t2_loop : Scf.Loop 32 :=
  let c0_i32_11 : BitVec 32 := 0#32
  let c256_i32_12 : BitVec 32 := 256#32
  let v71 : BitVec 32 := Scalar.addi c0_i32_11 c256_i32_12
  let c1_i32_13 : BitVec 32 := 1#32
  ⟨c0_i32_11, v71, c1_i32_13⟩
def k0_off4 (k0_t2 : Fin k0_t2_loop.trips) (c0_i32_163 : BitVec 32) : Fin 1 → Nat :=
  let c0_i32_162 : BitVec 32 := 0#32
  let c0_i32_11 : BitVec 32 := 0#32
  let c1_i32_13 : BitVec 32 := 1#32
  let arg11 : BitVec 32 := Scf.iv c0_i32_11 c1_i32_13 k0_t2
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
def k0_cond1 (v856 : BitVec 32) : BitVec 1 :=
  let c0_i32_177 : BitVec 32 := 0#32
  let v857 : BitVec 1 := Scalar.cmpi .sgt v856 c0_i32_177
  let v858 : BitVec 32 := Scalar.extui v857
  let c0_i32_178 : BitVec 32 := 0#32
  let v859 : BitVec 1 := Scalar.cmpi .ne v858 c0_i32_178
  v859

def k0_chk1 (v856 : BitVec 32) (v862 : IVec S16 32) : Prop :=
  (∀ (k0_h1 : k0_cond1 v856 = 1#1), ∀ a x, ((![v862] : Fin 1 → IVec S16 32) a x).toNat < S32768.size a)
theorem k0_idx1_inb : ∀ (v856 : BitVec 32) (v862 : IVec S16 32) (k0_hw1 : k0_chk1 v856 v862), ∀ (k0_h1 : k0_cond1 v856 = 1#1), ∀ a x, ((![v862] : Fin 1 → IVec S16 32) a x).toNat < S32768.size a := fun v856 v862 k0_hw1 k0_h1 => k0_hw1 k0_h1

def k0_chk2 (v856 : BitVec 32) (v865 : IVec S16 32) : Prop :=
  (∀ (k0_h1 : k0_cond1 v856 = 1#1), ∀ a x, ((![v865] : Fin 1 → IVec S16 32) a x).toNat < S32768.size a)
theorem k0_idx2_inb : ∀ (v856 : BitVec 32) (v865 : IVec S16 32) (k0_hw2 : k0_chk2 v856 v865), ∀ (k0_h1 : k0_cond1 v856 = 1#1), ∀ a x, ((![v865] : Fin 1 → IVec S16 32) a x).toNat < S32768.size a := fun v856 v865 k0_hw2 k0_h1 => k0_hw2 k0_h1

def k0_chk3 (v856 : BitVec 32) (v868 : IVec S16 32) : Prop :=
  (∀ (k0_h1 : k0_cond1 v856 = 1#1), ∀ a x, ((![v868] : Fin 1 → IVec S16 32) a x).toNat < S32768.size a)
theorem k0_idx3_inb : ∀ (v856 : BitVec 32) (v868 : IVec S16 32) (k0_hw3 : k0_chk3 v856 v868), ∀ (k0_h1 : k0_cond1 v856 = 1#1), ∀ a x, ((![v868] : Fin 1 → IVec S16 32) a x).toNat < S32768.size a := fun v856 v868 k0_hw3 k0_h1 => k0_hw3 k0_h1

def k0_chk4 (v856 : BitVec 32) (v871 : IVec S16 32) : Prop :=
  (∀ (k0_h1 : k0_cond1 v856 = 1#1), ∀ a x, ((![v871] : Fin 1 → IVec S16 32) a x).toNat < S32768.size a)
theorem k0_idx4_inb : ∀ (v856 : BitVec 32) (v871 : IVec S16 32) (k0_hw4 : k0_chk4 v856 v871), ∀ (k0_h1 : k0_cond1 v856 = 1#1), ∀ a x, ((![v871] : Fin 1 → IVec S16 32) a x).toNat < S32768.size a := fun v856 v871 k0_hw4 k0_h1 => k0_hw4 k0_h1

def k0_chk5 (v856 : BitVec 32) (v874 : IVec S16 32) : Prop :=
  (∀ (k0_h1 : k0_cond1 v856 = 1#1), ∀ a x, ((![v874] : Fin 1 → IVec S16 32) a x).toNat < S32768.size a)
theorem k0_idx5_inb : ∀ (v856 : BitVec 32) (v874 : IVec S16 32) (k0_hw5 : k0_chk5 v856 v874), ∀ (k0_h1 : k0_cond1 v856 = 1#1), ∀ a x, ((![v874] : Fin 1 → IVec S16 32) a x).toNat < S32768.size a := fun v856 v874 k0_hw5 k0_h1 => k0_hw5 k0_h1

def k0_chk6 (v856 : BitVec 32) (v877 : IVec S16 32) : Prop :=
  (∀ (k0_h1 : k0_cond1 v856 = 1#1), ∀ a x, ((![v877] : Fin 1 → IVec S16 32) a x).toNat < S32768.size a)
theorem k0_idx6_inb : ∀ (v856 : BitVec 32) (v877 : IVec S16 32) (k0_hw6 : k0_chk6 v856 v877), ∀ (k0_h1 : k0_cond1 v856 = 1#1), ∀ a x, ((![v877] : Fin 1 → IVec S16 32) a x).toNat < S32768.size a := fun v856 v877 k0_hw6 k0_h1 => k0_hw6 k0_h1

def k0_chk7 (v856 : BitVec 32) (v880 : IVec S16 32) : Prop :=
  (∀ (k0_h1 : k0_cond1 v856 = 1#1), ∀ a x, ((![v880] : Fin 1 → IVec S16 32) a x).toNat < S32768.size a)
theorem k0_idx7_inb : ∀ (v856 : BitVec 32) (v880 : IVec S16 32) (k0_hw7 : k0_chk7 v856 v880), ∀ (k0_h1 : k0_cond1 v856 = 1#1), ∀ a x, ((![v880] : Fin 1 → IVec S16 32) a x).toNat < S32768.size a := fun v856 v880 k0_hw7 k0_h1 => k0_hw7 k0_h1

def k0_chk8 (v856 : BitVec 32) (v883 : IVec S16 32) : Prop :=
  (∀ (k0_h1 : k0_cond1 v856 = 1#1), ∀ a x, ((![v883] : Fin 1 → IVec S16 32) a x).toNat < S32768.size a)
theorem k0_idx8_inb : ∀ (v856 : BitVec 32) (v883 : IVec S16 32) (k0_hw8 : k0_chk8 v856 v883), ∀ (k0_h1 : k0_cond1 v856 = 1#1), ∀ a x, ((![v883] : Fin 1 → IVec S16 32) a x).toNat < S32768.size a := fun v856 v883 k0_hw8 k0_h1 => k0_hw8 k0_h1
@[reducible] def k0_t3_loop (v78 : BitVec 32) : Scf.Loop 32 :=
  let c0_i32_16 : BitVec 32 := 0#32
  let v79 : BitVec 32 := Scalar.subi v78 c0_i32_16
  let c1_i32_17 : BitVec 32 := 1#32
  let v81 : BitVec 32 := Scalar.divsi v79 c1_i32_17
  let v82 : BitVec 32 := Scalar.muli v81 c1_i32_17
  let v83 : BitVec 32 := Scalar.addi c0_i32_16 v82
  let c1_i32_18 : BitVec 32 := 1#32
  ⟨c0_i32_16, v83, c1_i32_18⟩

def k0_off5 (v78 : BitVec 32) (k0_t3 : Fin (k0_t3_loop v78).trips) : Fin 1 → Nat :=
  let c0_i32_16 : BitVec 32 := 0#32
  let c1_i32_18 : BitVec 32 := 1#32
  let arg11 : BitVec 32 := Scf.iv c0_i32_16 c1_i32_18 k0_t3
  let c16_i32 : BitVec 32 := 16#32
  let v786 : BitVec 32 := Scalar.muli arg11 c16_i32
  let v787 : Index := Scalar.indexCast v786
  ![v787.toNat]
@[reducible] def k0_t4_loop (v78 : BitVec 32) : Scf.Loop 32 :=
  let c0_i32_16 : BitVec 32 := 0#32
  let v79 : BitVec 32 := Scalar.subi v78 c0_i32_16
  let c1_i32_17 : BitVec 32 := 1#32
  let v81 : BitVec 32 := Scalar.divsi v79 c1_i32_17
  let v82 : BitVec 32 := Scalar.muli v81 c1_i32_17
  let v83 : BitVec 32 := Scalar.addi c0_i32_16 v82
  let v80 : BitVec 32 := Scalar.addi c0_i32_16 v79
  let c1_i32_19 : BitVec 32 := 1#32
  ⟨v83, v80, c1_i32_19⟩
def k0_off6 (v78 : BitVec 32) (k0_t4 : Fin (k0_t4_loop v78).trips) : Fin 1 → Nat :=
  let c0_i32_16 : BitVec 32 := 0#32
  let v79 : BitVec 32 := Scalar.subi v78 c0_i32_16
  let c1_i32_17 : BitVec 32 := 1#32
  let v81 : BitVec 32 := Scalar.divsi v79 c1_i32_17
  let v82 : BitVec 32 := Scalar.muli v81 c1_i32_17
  let v83 : BitVec 32 := Scalar.addi c0_i32_16 v82
  let c1_i32_19 : BitVec 32 := 1#32
  let arg11 : BitVec 32 := Scf.iv v83 c1_i32_19 k0_t4
  let c16_i32 : BitVec 32 := 16#32
  let v786 : BitVec 32 := Scalar.muli arg11 c16_i32
  let v787 : Index := Scalar.indexCast v786
  ![v787.toNat]
@[reducible] def k0_t5_loop : Scf.Loop 32 :=
  let c0_i32_20 : BitVec 32 := 0#32
  let c24_i32 : BitVec 32 := 24#32
  let v85 : BitVec 32 := Scalar.addi c0_i32_20 c24_i32
  let c1_i32_21 : BitVec 32 := 1#32
  ⟨c0_i32_20, v85, c1_i32_21⟩
@[reducible] def k0_t6_loop (v78 : BitVec 32) : Scf.Loop 32 :=
  let c0_i32_164 : BitVec 32 := 0#32
  let v789 : BitVec 32 := Scalar.subi v78 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let c1_i32_166 : BitVec 32 := 1#32
  ⟨c0_i32_164, v793, c1_i32_166⟩
def k0_off7 (v78 : BitVec 32) (k0_t6 : Fin (k0_t6_loop v78).trips) : Fin 1 → Nat :=
  let c0_i32_164 : BitVec 32 := 0#32
  let c1_i32_166 : BitVec 32 := 1#32
  let arg14 : BitVec 32 := Scf.iv c0_i32_164 c1_i32_166 k0_t6
  let c16_i32 : BitVec 32 := 16#32
  let v849 : BitVec 32 := Scalar.muli arg14 c16_i32
  let v850 : Index := Scalar.indexCast v849
  ![v850.toNat]
@[reducible] def k0_t7_loop (v78 : BitVec 32) : Scf.Loop 32 :=
  let c0_i32_164 : BitVec 32 := 0#32
  let v789 : BitVec 32 := Scalar.subi v78 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let v790 : BitVec 32 := Scalar.addi c0_i32_164 v789
  let c1_i32_167 : BitVec 32 := 1#32
  ⟨v793, v790, c1_i32_167⟩
def k0_off8 (v78 : BitVec 32) (k0_t7 : Fin (k0_t7_loop v78).trips) : Fin 1 → Nat :=
  let c0_i32_164 : BitVec 32 := 0#32
  let v789 : BitVec 32 := Scalar.subi v78 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let c1_i32_167 : BitVec 32 := 1#32
  let arg14 : BitVec 32 := Scf.iv v793 c1_i32_167 k0_t7
  let c16_i32 : BitVec 32 := 16#32
  let v849 : BitVec 32 := Scalar.muli arg14 c16_i32
  let v850 : Index := Scalar.indexCast v849
  ![v850.toNat]
@[reducible] def k0_t8_loop (v78 : BitVec 32) : Scf.Loop 32 :=
  let c0_i32_24 : BitVec 32 := 0#32
  let v88 : BitVec 32 := Scalar.subi v78 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let c1_i32_26 : BitVec 32 := 1#32
  ⟨c0_i32_24, v92, c1_i32_26⟩
def k0_off9 (v78 : BitVec 32) (k0_t8 : Fin (k0_t8_loop v78).trips) : Fin 1 → Nat :=
  let c0_i32_24 : BitVec 32 := 0#32
  let c1_i32_26 : BitVec 32 := 1#32
  let arg11 : BitVec 32 := Scf.iv c0_i32_24 c1_i32_26 k0_t8
  let c16_i32 : BitVec 32 := 16#32
  let v785 : BitVec 32 := Scalar.muli arg11 c16_i32
  let v786 : Index := Scalar.indexCast v785
  ![v786.toNat]
@[reducible] def k0_t9_loop (v78 : BitVec 32) : Scf.Loop 32 :=
  let c0_i32_24 : BitVec 32 := 0#32
  let v88 : BitVec 32 := Scalar.subi v78 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let v89 : BitVec 32 := Scalar.addi c0_i32_24 v88
  let c1_i32_27 : BitVec 32 := 1#32
  ⟨v92, v89, c1_i32_27⟩
def k0_off10 (v78 : BitVec 32) (k0_t9 : Fin (k0_t9_loop v78).trips) : Fin 1 → Nat :=
  let c0_i32_24 : BitVec 32 := 0#32
  let v88 : BitVec 32 := Scalar.subi v78 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let c1_i32_27 : BitVec 32 := 1#32
  let arg11 : BitVec 32 := Scf.iv v92 c1_i32_27 k0_t9
  let c16_i32 : BitVec 32 := 16#32
  let v785 : BitVec 32 := Scalar.muli arg11 c16_i32
  let v786 : Index := Scalar.indexCast v785
  ![v786.toNat]

def k0_chk9 (v78 : BitVec 32) : Prop :=
  ((k0_t3_loop v78).OK) ∧
  (∀ k0_t3 : Fin (k0_t3_loop v78).trips, ∀ a, (k0_off5 v78 k0_t3) a + S16.size a ≤ S32768.size a) ∧
  ((k0_t4_loop v78).OK) ∧
  (∀ k0_t4 : Fin (k0_t4_loop v78).trips, ∀ a, (k0_off6 v78 k0_t4) a + S16.size a ≤ S32768.size a) ∧
  ((k0_t6_loop v78).OK) ∧
  (∀ k0_t6 : Fin (k0_t6_loop v78).trips, ∀ a, (k0_off7 v78 k0_t6) a + S16.size a ≤ S32768.size a) ∧
  ((k0_t7_loop v78).OK) ∧
  (∀ k0_t7 : Fin (k0_t7_loop v78).trips, ∀ a, (k0_off8 v78 k0_t7) a + S16.size a ≤ S32768.size a) ∧
  ((k0_t8_loop v78).OK) ∧
  (∀ k0_t8 : Fin (k0_t8_loop v78).trips, ∀ a, (k0_off9 v78 k0_t8) a + S16.size a ≤ S32768.size a) ∧
  ((k0_t9_loop v78).OK) ∧
  (∀ k0_t9 : Fin (k0_t9_loop v78).trips, ∀ a, (k0_off10 v78 k0_t9) a + S16.size a ≤ S32768.size a)
theorem k0_t3_ok : ∀ (v78 : BitVec 32) (k0_hw9 : k0_chk9 v78), (k0_t3_loop v78).OK := fun v78 k0_hw9 => k0_hw9.1
theorem k0_off5_inb : ∀ (v78 : BitVec 32) (k0_hw9 : k0_chk9 v78) (k0_t3 : Fin (k0_t3_loop v78).trips), ∀ a, (k0_off5 v78 k0_t3) a + S16.size a ≤ S32768.size a := fun v78 k0_hw9 k0_t3 => k0_hw9.2.1 k0_t3
theorem k0_t4_ok : ∀ (v78 : BitVec 32) (k0_hw9 : k0_chk9 v78), (k0_t4_loop v78).OK := fun v78 k0_hw9 => k0_hw9.2.2.1
theorem k0_off6_inb : ∀ (v78 : BitVec 32) (k0_hw9 : k0_chk9 v78) (k0_t4 : Fin (k0_t4_loop v78).trips), ∀ a, (k0_off6 v78 k0_t4) a + S16.size a ≤ S32768.size a := fun v78 k0_hw9 k0_t4 => k0_hw9.2.2.2.1 k0_t4
theorem k0_t6_ok : ∀ (v78 : BitVec 32) (k0_hw9 : k0_chk9 v78), (k0_t6_loop v78).OK := fun v78 k0_hw9 => k0_hw9.2.2.2.2.1
theorem k0_off7_inb : ∀ (v78 : BitVec 32) (k0_hw9 : k0_chk9 v78) (k0_t6 : Fin (k0_t6_loop v78).trips), ∀ a, (k0_off7 v78 k0_t6) a + S16.size a ≤ S32768.size a := fun v78 k0_hw9 k0_t6 => k0_hw9.2.2.2.2.2.1 k0_t6
theorem k0_t7_ok : ∀ (v78 : BitVec 32) (k0_hw9 : k0_chk9 v78), (k0_t7_loop v78).OK := fun v78 k0_hw9 => k0_hw9.2.2.2.2.2.2.1
theorem k0_off8_inb : ∀ (v78 : BitVec 32) (k0_hw9 : k0_chk9 v78) (k0_t7 : Fin (k0_t7_loop v78).trips), ∀ a, (k0_off8 v78 k0_t7) a + S16.size a ≤ S32768.size a := fun v78 k0_hw9 k0_t7 => k0_hw9.2.2.2.2.2.2.2.1 k0_t7
theorem k0_t8_ok : ∀ (v78 : BitVec 32) (k0_hw9 : k0_chk9 v78), (k0_t8_loop v78).OK := fun v78 k0_hw9 => k0_hw9.2.2.2.2.2.2.2.2.1
theorem k0_off9_inb : ∀ (v78 : BitVec 32) (k0_hw9 : k0_chk9 v78) (k0_t8 : Fin (k0_t8_loop v78).trips), ∀ a, (k0_off9 v78 k0_t8) a + S16.size a ≤ S32768.size a := fun v78 k0_hw9 k0_t8 => k0_hw9.2.2.2.2.2.2.2.2.2.1 k0_t8
theorem k0_t9_ok : ∀ (v78 : BitVec 32) (k0_hw9 : k0_chk9 v78), (k0_t9_loop v78).OK := fun v78 k0_hw9 => k0_hw9.2.2.2.2.2.2.2.2.2.2.1
theorem k0_off10_inb : ∀ (v78 : BitVec 32) (k0_hw9 : k0_chk9 v78) (k0_t9 : Fin (k0_t9_loop v78).trips), ∀ a, (k0_off10 v78 k0_t9) a + S16.size a ≤ S32768.size a := fun v78 k0_hw9 k0_t9 => k0_hw9.2.2.2.2.2.2.2.2.2.2.2 k0_t9

@[reducible] def k0_t10_loop : Scf.Loop 32 :=
  let c0_i32_29 : BitVec 32 := 0#32
  let c256_i32_30 : BitVec 32 := 256#32
  let v193 : BitVec 32 := Scalar.addi c0_i32_29 c256_i32_30
  let c1_i32_31 : BitVec 32 := 1#32
  ⟨c0_i32_29, v193, c1_i32_31⟩
def k0_off11 (k0_t10 : Fin k0_t10_loop.trips) (c0_i32_163 : BitVec 32) : Fin 1 → Nat :=
  let c0_i32_162 : BitVec 32 := 0#32
  let c0_i32_29 : BitVec 32 := 0#32
  let c1_i32_31 : BitVec 32 := 1#32
  let arg11 : BitVec 32 := Scf.iv c0_i32_29 c1_i32_31 k0_t10
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_33 : BitVec 32 := 0#32
  let v194 : BitVec 32 := Scalar.addi v2 c0_i32_33
  let c0_i32_34 : BitVec 32 := 0#32
  ![v194.toNat, 0]
def k0_off13 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v11 : BitVec 32 := Scalar.addi v2 c0_i32_3
  let c1_i32 : BitVec 32 := 1#32
  let v12 : BitVec 32 := Scalar.addi v11 c1_i32
  let c0_i32_36 : BitVec 32 := 0#32
  ![v12.toNat, 0]
@[reducible] def k0_t11_loop : Scf.Loop 32 :=
  let c0_i32_45 : BitVec 32 := 0#32
  let c256_i32_46 : BitVec 32 := 256#32
  let v215 : BitVec 32 := Scalar.addi c0_i32_45 c256_i32_46
  let c1_i32_47 : BitVec 32 := 1#32
  ⟨c0_i32_45, v215, c1_i32_47⟩
def k0_off14 (k0_t11 : Fin k0_t11_loop.trips) (c0_i32_163 : BitVec 32) : Fin 1 → Nat :=
  let c0_i32_162 : BitVec 32 := 0#32
  let c0_i32_45 : BitVec 32 := 0#32
  let c1_i32_47 : BitVec 32 := 1#32
  let arg11 : BitVec 32 := Scf.iv c0_i32_45 c1_i32_47 k0_t11
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
@[reducible] def k0_t12_loop : Scf.Loop 32 :=
  let c0_i32_51 : BitVec 32 := 0#32
  let c256_i32_52 : BitVec 32 := 256#32
  let v267 : BitVec 32 := Scalar.addi c0_i32_51 c256_i32_52
  let c1_i32_53 : BitVec 32 := 1#32
  ⟨c0_i32_51, v267, c1_i32_53⟩
def k0_off15 (k0_t12 : Fin k0_t12_loop.trips) (c0_i32_163 : BitVec 32) : Fin 1 → Nat :=
  let c0_i32_162 : BitVec 32 := 0#32
  let c0_i32_51 : BitVec 32 := 0#32
  let c1_i32_53 : BitVec 32 := 1#32
  let arg11 : BitVec 32 := Scf.iv c0_i32_51 c1_i32_53 k0_t12
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
def k0_cond2 (v856 : BitVec 32) : BitVec 1 :=
  let c0_i32_177 : BitVec 32 := 0#32
  let v857 : BitVec 1 := Scalar.cmpi .sgt v856 c0_i32_177
  let v858 : BitVec 32 := Scalar.extui v857
  let c0_i32_178 : BitVec 32 := 0#32
  let v859 : BitVec 1 := Scalar.cmpi .ne v858 c0_i32_178
  v859

def k0_chk10 (v856 : BitVec 32) (v862 : IVec S16 32) : Prop :=
  (∀ (k0_h2 : k0_cond2 v856 = 1#1), ∀ a x, ((![v862] : Fin 1 → IVec S16 32) a x).toNat < S32768.size a)
theorem k0_idx9_inb : ∀ (v856 : BitVec 32) (v862 : IVec S16 32) (k0_hw10 : k0_chk10 v856 v862), ∀ (k0_h2 : k0_cond2 v856 = 1#1), ∀ a x, ((![v862] : Fin 1 → IVec S16 32) a x).toNat < S32768.size a := fun v856 v862 k0_hw10 k0_h2 => k0_hw10 k0_h2

def k0_chk11 (v856 : BitVec 32) (v865 : IVec S16 32) : Prop :=
  (∀ (k0_h2 : k0_cond2 v856 = 1#1), ∀ a x, ((![v865] : Fin 1 → IVec S16 32) a x).toNat < S32768.size a)
theorem k0_idx10_inb : ∀ (v856 : BitVec 32) (v865 : IVec S16 32) (k0_hw11 : k0_chk11 v856 v865), ∀ (k0_h2 : k0_cond2 v856 = 1#1), ∀ a x, ((![v865] : Fin 1 → IVec S16 32) a x).toNat < S32768.size a := fun v856 v865 k0_hw11 k0_h2 => k0_hw11 k0_h2

def k0_chk12 (v856 : BitVec 32) (v868 : IVec S16 32) : Prop :=
  (∀ (k0_h2 : k0_cond2 v856 = 1#1), ∀ a x, ((![v868] : Fin 1 → IVec S16 32) a x).toNat < S32768.size a)
theorem k0_idx11_inb : ∀ (v856 : BitVec 32) (v868 : IVec S16 32) (k0_hw12 : k0_chk12 v856 v868), ∀ (k0_h2 : k0_cond2 v856 = 1#1), ∀ a x, ((![v868] : Fin 1 → IVec S16 32) a x).toNat < S32768.size a := fun v856 v868 k0_hw12 k0_h2 => k0_hw12 k0_h2

def k0_chk13 (v856 : BitVec 32) (v871 : IVec S16 32) : Prop :=
  (∀ (k0_h2 : k0_cond2 v856 = 1#1), ∀ a x, ((![v871] : Fin 1 → IVec S16 32) a x).toNat < S32768.size a)
theorem k0_idx12_inb : ∀ (v856 : BitVec 32) (v871 : IVec S16 32) (k0_hw13 : k0_chk13 v856 v871), ∀ (k0_h2 : k0_cond2 v856 = 1#1), ∀ a x, ((![v871] : Fin 1 → IVec S16 32) a x).toNat < S32768.size a := fun v856 v871 k0_hw13 k0_h2 => k0_hw13 k0_h2

def k0_chk14 (v856 : BitVec 32) (v874 : IVec S16 32) : Prop :=
  (∀ (k0_h2 : k0_cond2 v856 = 1#1), ∀ a x, ((![v874] : Fin 1 → IVec S16 32) a x).toNat < S32768.size a)
theorem k0_idx13_inb : ∀ (v856 : BitVec 32) (v874 : IVec S16 32) (k0_hw14 : k0_chk14 v856 v874), ∀ (k0_h2 : k0_cond2 v856 = 1#1), ∀ a x, ((![v874] : Fin 1 → IVec S16 32) a x).toNat < S32768.size a := fun v856 v874 k0_hw14 k0_h2 => k0_hw14 k0_h2

def k0_chk15 (v856 : BitVec 32) (v877 : IVec S16 32) : Prop :=
  (∀ (k0_h2 : k0_cond2 v856 = 1#1), ∀ a x, ((![v877] : Fin 1 → IVec S16 32) a x).toNat < S32768.size a)
theorem k0_idx14_inb : ∀ (v856 : BitVec 32) (v877 : IVec S16 32) (k0_hw15 : k0_chk15 v856 v877), ∀ (k0_h2 : k0_cond2 v856 = 1#1), ∀ a x, ((![v877] : Fin 1 → IVec S16 32) a x).toNat < S32768.size a := fun v856 v877 k0_hw15 k0_h2 => k0_hw15 k0_h2

def k0_chk16 (v856 : BitVec 32) (v880 : IVec S16 32) : Prop :=
  (∀ (k0_h2 : k0_cond2 v856 = 1#1), ∀ a x, ((![v880] : Fin 1 → IVec S16 32) a x).toNat < S32768.size a)
theorem k0_idx15_inb : ∀ (v856 : BitVec 32) (v880 : IVec S16 32) (k0_hw16 : k0_chk16 v856 v880), ∀ (k0_h2 : k0_cond2 v856 = 1#1), ∀ a x, ((![v880] : Fin 1 → IVec S16 32) a x).toNat < S32768.size a := fun v856 v880 k0_hw16 k0_h2 => k0_hw16 k0_h2

def k0_chk17 (v856 : BitVec 32) (v883 : IVec S16 32) : Prop :=
  (∀ (k0_h2 : k0_cond2 v856 = 1#1), ∀ a x, ((![v883] : Fin 1 → IVec S16 32) a x).toNat < S32768.size a)
theorem k0_idx16_inb : ∀ (v856 : BitVec 32) (v883 : IVec S16 32) (k0_hw17 : k0_chk17 v856 v883), ∀ (k0_h2 : k0_cond2 v856 = 1#1), ∀ a x, ((![v883] : Fin 1 → IVec S16 32) a x).toNat < S32768.size a := fun v856 v883 k0_hw17 k0_h2 => k0_hw17 k0_h2
@[reducible] def k0_t13_loop (v274 : BitVec 32) : Scf.Loop 32 :=
  let c0_i32_58 : BitVec 32 := 0#32
  let v275 : BitVec 32 := Scalar.subi v274 c0_i32_58
  let c1_i32_59 : BitVec 32 := 1#32
  let v277 : BitVec 32 := Scalar.divsi v275 c1_i32_59
  let v278 : BitVec 32 := Scalar.muli v277 c1_i32_59
  let v279 : BitVec 32 := Scalar.addi c0_i32_58 v278
  let c1_i32_60 : BitVec 32 := 1#32
  ⟨c0_i32_58, v279, c1_i32_60⟩

def k0_off16 (v274 : BitVec 32) (k0_t13 : Fin (k0_t13_loop v274).trips) : Fin 1 → Nat :=
  let c0_i32_58 : BitVec 32 := 0#32
  let c1_i32_60 : BitVec 32 := 1#32
  let arg11 : BitVec 32 := Scf.iv c0_i32_58 c1_i32_60 k0_t13
  let c16_i32 : BitVec 32 := 16#32
  let v786 : BitVec 32 := Scalar.muli arg11 c16_i32
  let v787 : Index := Scalar.indexCast v786
  ![v787.toNat]
@[reducible] def k0_t14_loop (v274 : BitVec 32) : Scf.Loop 32 :=
  let c0_i32_58 : BitVec 32 := 0#32
  let v275 : BitVec 32 := Scalar.subi v274 c0_i32_58
  let c1_i32_59 : BitVec 32 := 1#32
  let v277 : BitVec 32 := Scalar.divsi v275 c1_i32_59
  let v278 : BitVec 32 := Scalar.muli v277 c1_i32_59
  let v279 : BitVec 32 := Scalar.addi c0_i32_58 v278
  let v276 : BitVec 32 := Scalar.addi c0_i32_58 v275
  let c1_i32_61 : BitVec 32 := 1#32
  ⟨v279, v276, c1_i32_61⟩
def k0_off17 (v274 : BitVec 32) (k0_t14 : Fin (k0_t14_loop v274).trips) : Fin 1 → Nat :=
  let c0_i32_58 : BitVec 32 := 0#32
  let v275 : BitVec 32 := Scalar.subi v274 c0_i32_58
  let c1_i32_59 : BitVec 32 := 1#32
  let v277 : BitVec 32 := Scalar.divsi v275 c1_i32_59
  let v278 : BitVec 32 := Scalar.muli v277 c1_i32_59
  let v279 : BitVec 32 := Scalar.addi c0_i32_58 v278
  let c1_i32_61 : BitVec 32 := 1#32
  let arg11 : BitVec 32 := Scf.iv v279 c1_i32_61 k0_t14
  let c16_i32 : BitVec 32 := 16#32
  let v786 : BitVec 32 := Scalar.muli arg11 c16_i32
  let v787 : Index := Scalar.indexCast v786
  ![v787.toNat]
@[reducible] def k0_t15_loop : Scf.Loop 32 :=
  let c0_i32_62 : BitVec 32 := 0#32
  let c24_i32_63 : BitVec 32 := 24#32
  let v281 : BitVec 32 := Scalar.addi c0_i32_62 c24_i32_63
  let c1_i32_64 : BitVec 32 := 1#32
  ⟨c0_i32_62, v281, c1_i32_64⟩
@[reducible] def k0_t16_loop (v274 : BitVec 32) : Scf.Loop 32 :=
  let c0_i32_164 : BitVec 32 := 0#32
  let v789 : BitVec 32 := Scalar.subi v274 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let c1_i32_166 : BitVec 32 := 1#32
  ⟨c0_i32_164, v793, c1_i32_166⟩
def k0_off18 (v274 : BitVec 32) (k0_t16 : Fin (k0_t16_loop v274).trips) : Fin 1 → Nat :=
  let c0_i32_164 : BitVec 32 := 0#32
  let c1_i32_166 : BitVec 32 := 1#32
  let arg14 : BitVec 32 := Scf.iv c0_i32_164 c1_i32_166 k0_t16
  let c16_i32 : BitVec 32 := 16#32
  let v849 : BitVec 32 := Scalar.muli arg14 c16_i32
  let v850 : Index := Scalar.indexCast v849
  ![v850.toNat]
@[reducible] def k0_t17_loop (v274 : BitVec 32) : Scf.Loop 32 :=
  let c0_i32_164 : BitVec 32 := 0#32
  let v789 : BitVec 32 := Scalar.subi v274 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let v790 : BitVec 32 := Scalar.addi c0_i32_164 v789
  let c1_i32_167 : BitVec 32 := 1#32
  ⟨v793, v790, c1_i32_167⟩
def k0_off19 (v274 : BitVec 32) (k0_t17 : Fin (k0_t17_loop v274).trips) : Fin 1 → Nat :=
  let c0_i32_164 : BitVec 32 := 0#32
  let v789 : BitVec 32 := Scalar.subi v274 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let c1_i32_167 : BitVec 32 := 1#32
  let arg14 : BitVec 32 := Scf.iv v793 c1_i32_167 k0_t17
  let c16_i32 : BitVec 32 := 16#32
  let v849 : BitVec 32 := Scalar.muli arg14 c16_i32
  let v850 : Index := Scalar.indexCast v849
  ![v850.toNat]
@[reducible] def k0_t18_loop (v274 : BitVec 32) : Scf.Loop 32 :=
  let c0_i32_67 : BitVec 32 := 0#32
  let v284 : BitVec 32 := Scalar.subi v274 c0_i32_67
  let c1_i32_68 : BitVec 32 := 1#32
  let v286 : BitVec 32 := Scalar.divsi v284 c1_i32_68
  let v287 : BitVec 32 := Scalar.muli v286 c1_i32_68
  let v288 : BitVec 32 := Scalar.addi c0_i32_67 v287
  let c1_i32_69 : BitVec 32 := 1#32
  ⟨c0_i32_67, v288, c1_i32_69⟩
def k0_off20 (v274 : BitVec 32) (k0_t18 : Fin (k0_t18_loop v274).trips) : Fin 1 → Nat :=
  let c0_i32_67 : BitVec 32 := 0#32
  let c1_i32_69 : BitVec 32 := 1#32
  let arg11 : BitVec 32 := Scf.iv c0_i32_67 c1_i32_69 k0_t18
  let c16_i32 : BitVec 32 := 16#32
  let v785 : BitVec 32 := Scalar.muli arg11 c16_i32
  let v786 : Index := Scalar.indexCast v785
  ![v786.toNat]
@[reducible] def k0_t19_loop (v274 : BitVec 32) : Scf.Loop 32 :=
  let c0_i32_67 : BitVec 32 := 0#32
  let v284 : BitVec 32 := Scalar.subi v274 c0_i32_67
  let c1_i32_68 : BitVec 32 := 1#32
  let v286 : BitVec 32 := Scalar.divsi v284 c1_i32_68
  let v287 : BitVec 32 := Scalar.muli v286 c1_i32_68
  let v288 : BitVec 32 := Scalar.addi c0_i32_67 v287
  let v285 : BitVec 32 := Scalar.addi c0_i32_67 v284
  let c1_i32_70 : BitVec 32 := 1#32
  ⟨v288, v285, c1_i32_70⟩
def k0_off21 (v274 : BitVec 32) (k0_t19 : Fin (k0_t19_loop v274).trips) : Fin 1 → Nat :=
  let c0_i32_67 : BitVec 32 := 0#32
  let v284 : BitVec 32 := Scalar.subi v274 c0_i32_67
  let c1_i32_68 : BitVec 32 := 1#32
  let v286 : BitVec 32 := Scalar.divsi v284 c1_i32_68
  let v287 : BitVec 32 := Scalar.muli v286 c1_i32_68
  let v288 : BitVec 32 := Scalar.addi c0_i32_67 v287
  let c1_i32_70 : BitVec 32 := 1#32
  let arg11 : BitVec 32 := Scf.iv v288 c1_i32_70 k0_t19
  let c16_i32 : BitVec 32 := 16#32
  let v785 : BitVec 32 := Scalar.muli arg11 c16_i32
  let v786 : Index := Scalar.indexCast v785
  ![v786.toNat]

def k0_chk18 (v274 : BitVec 32) : Prop :=
  ((k0_t13_loop v274).OK) ∧
  (∀ k0_t13 : Fin (k0_t13_loop v274).trips, ∀ a, (k0_off16 v274 k0_t13) a + S16.size a ≤ S32768.size a) ∧
  ((k0_t14_loop v274).OK) ∧
  (∀ k0_t14 : Fin (k0_t14_loop v274).trips, ∀ a, (k0_off17 v274 k0_t14) a + S16.size a ≤ S32768.size a) ∧
  ((k0_t16_loop v274).OK) ∧
  (∀ k0_t16 : Fin (k0_t16_loop v274).trips, ∀ a, (k0_off18 v274 k0_t16) a + S16.size a ≤ S32768.size a) ∧
  ((k0_t17_loop v274).OK) ∧
  (∀ k0_t17 : Fin (k0_t17_loop v274).trips, ∀ a, (k0_off19 v274 k0_t17) a + S16.size a ≤ S32768.size a) ∧
  ((k0_t18_loop v274).OK) ∧
  (∀ k0_t18 : Fin (k0_t18_loop v274).trips, ∀ a, (k0_off20 v274 k0_t18) a + S16.size a ≤ S32768.size a) ∧
  ((k0_t19_loop v274).OK) ∧
  (∀ k0_t19 : Fin (k0_t19_loop v274).trips, ∀ a, (k0_off21 v274 k0_t19) a + S16.size a ≤ S32768.size a)
theorem k0_t13_ok : ∀ (v274 : BitVec 32) (k0_hw18 : k0_chk18 v274), (k0_t13_loop v274).OK := fun v274 k0_hw18 => k0_hw18.1
theorem k0_off16_inb : ∀ (v274 : BitVec 32) (k0_hw18 : k0_chk18 v274) (k0_t13 : Fin (k0_t13_loop v274).trips), ∀ a, (k0_off16 v274 k0_t13) a + S16.size a ≤ S32768.size a := fun v274 k0_hw18 k0_t13 => k0_hw18.2.1 k0_t13
theorem k0_t14_ok : ∀ (v274 : BitVec 32) (k0_hw18 : k0_chk18 v274), (k0_t14_loop v274).OK := fun v274 k0_hw18 => k0_hw18.2.2.1
theorem k0_off17_inb : ∀ (v274 : BitVec 32) (k0_hw18 : k0_chk18 v274) (k0_t14 : Fin (k0_t14_loop v274).trips), ∀ a, (k0_off17 v274 k0_t14) a + S16.size a ≤ S32768.size a := fun v274 k0_hw18 k0_t14 => k0_hw18.2.2.2.1 k0_t14
theorem k0_t16_ok : ∀ (v274 : BitVec 32) (k0_hw18 : k0_chk18 v274), (k0_t16_loop v274).OK := fun v274 k0_hw18 => k0_hw18.2.2.2.2.1
theorem k0_off18_inb : ∀ (v274 : BitVec 32) (k0_hw18 : k0_chk18 v274) (k0_t16 : Fin (k0_t16_loop v274).trips), ∀ a, (k0_off18 v274 k0_t16) a + S16.size a ≤ S32768.size a := fun v274 k0_hw18 k0_t16 => k0_hw18.2.2.2.2.2.1 k0_t16
theorem k0_t17_ok : ∀ (v274 : BitVec 32) (k0_hw18 : k0_chk18 v274), (k0_t17_loop v274).OK := fun v274 k0_hw18 => k0_hw18.2.2.2.2.2.2.1
theorem k0_off19_inb : ∀ (v274 : BitVec 32) (k0_hw18 : k0_chk18 v274) (k0_t17 : Fin (k0_t17_loop v274).trips), ∀ a, (k0_off19 v274 k0_t17) a + S16.size a ≤ S32768.size a := fun v274 k0_hw18 k0_t17 => k0_hw18.2.2.2.2.2.2.2.1 k0_t17
theorem k0_t18_ok : ∀ (v274 : BitVec 32) (k0_hw18 : k0_chk18 v274), (k0_t18_loop v274).OK := fun v274 k0_hw18 => k0_hw18.2.2.2.2.2.2.2.2.1
theorem k0_off20_inb : ∀ (v274 : BitVec 32) (k0_hw18 : k0_chk18 v274) (k0_t18 : Fin (k0_t18_loop v274).trips), ∀ a, (k0_off20 v274 k0_t18) a + S16.size a ≤ S32768.size a := fun v274 k0_hw18 k0_t18 => k0_hw18.2.2.2.2.2.2.2.2.2.1 k0_t18
theorem k0_t19_ok : ∀ (v274 : BitVec 32) (k0_hw18 : k0_chk18 v274), (k0_t19_loop v274).OK := fun v274 k0_hw18 => k0_hw18.2.2.2.2.2.2.2.2.2.2.1
theorem k0_off21_inb : ∀ (v274 : BitVec 32) (k0_hw18 : k0_chk18 v274) (k0_t19 : Fin (k0_t19_loop v274).trips), ∀ a, (k0_off21 v274 k0_t19) a + S16.size a ≤ S32768.size a := fun v274 k0_hw18 k0_t19 => k0_hw18.2.2.2.2.2.2.2.2.2.2.2 k0_t19

@[reducible] def k0_t20_loop : Scf.Loop 32 :=
  let c0_i32_72 : BitVec 32 := 0#32
  let c256_i32_73 : BitVec 32 := 256#32
  let v389 : BitVec 32 := Scalar.addi c0_i32_72 c256_i32_73
  let c1_i32_74 : BitVec 32 := 1#32
  ⟨c0_i32_72, v389, c1_i32_74⟩
def k0_off22 (k0_t20 : Fin k0_t20_loop.trips) (c0_i32_163 : BitVec 32) : Fin 1 → Nat :=
  let c0_i32_162 : BitVec 32 := 0#32
  let c0_i32_72 : BitVec 32 := 0#32
  let c1_i32_74 : BitVec 32 := 1#32
  let arg11 : BitVec 32 := Scf.iv c0_i32_72 c1_i32_74 k0_t20
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32_76 : BitVec 32 := 1#32
  let v390 : BitVec 32 := Scalar.addi v2 c1_i32_76
  let c0_i32_77 : BitVec 32 := 0#32
  ![v390.toNat, 0]
def k0_off24 (i : grid0.Coords) (c1_i32_40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v207 : BitVec 32 := Scalar.addi v2 c1_i32_40
  let c1_i32_41 : BitVec 32 := 1#32
  let v208 : BitVec 32 := Scalar.addi v207 c1_i32_41
  let c0_i32_79 : BitVec 32 := 0#32
  ![v208.toNat, 0]
@[reducible] def k0_t21_loop : Scf.Loop 32 :=
  let c0_i32_88 : BitVec 32 := 0#32
  let c256_i32_89 : BitVec 32 := 256#32
  let v411 : BitVec 32 := Scalar.addi c0_i32_88 c256_i32_89
  let c1_i32_90 : BitVec 32 := 1#32
  ⟨c0_i32_88, v411, c1_i32_90⟩
def k0_off25 (k0_t21 : Fin k0_t21_loop.trips) (c0_i32_163 : BitVec 32) : Fin 1 → Nat :=
  let c0_i32_162 : BitVec 32 := 0#32
  let c0_i32_88 : BitVec 32 := 0#32
  let c1_i32_90 : BitVec 32 := 1#32
  let arg11 : BitVec 32 := Scf.iv c0_i32_88 c1_i32_90 k0_t21
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
@[reducible] def k0_t22_loop : Scf.Loop 32 :=
  let c0_i32_94 : BitVec 32 := 0#32
  let c256_i32_95 : BitVec 32 := 256#32
  let v463 : BitVec 32 := Scalar.addi c0_i32_94 c256_i32_95
  let c1_i32_96 : BitVec 32 := 1#32
  ⟨c0_i32_94, v463, c1_i32_96⟩
def k0_off26 (k0_t22 : Fin k0_t22_loop.trips) (c0_i32_163 : BitVec 32) : Fin 1 → Nat :=
  let c0_i32_162 : BitVec 32 := 0#32
  let c0_i32_94 : BitVec 32 := 0#32
  let c1_i32_96 : BitVec 32 := 1#32
  let arg11 : BitVec 32 := Scf.iv c0_i32_94 c1_i32_96 k0_t22
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
def k0_cond3 (v856 : BitVec 32) : BitVec 1 :=
  let c0_i32_177 : BitVec 32 := 0#32
  let v857 : BitVec 1 := Scalar.cmpi .sgt v856 c0_i32_177
  let v858 : BitVec 32 := Scalar.extui v857
  let c0_i32_178 : BitVec 32 := 0#32
  let v859 : BitVec 1 := Scalar.cmpi .ne v858 c0_i32_178
  v859

def k0_chk19 (v856 : BitVec 32) (v862 : IVec S16 32) : Prop :=
  (∀ (k0_h3 : k0_cond3 v856 = 1#1), ∀ a x, ((![v862] : Fin 1 → IVec S16 32) a x).toNat < S32768.size a)
theorem k0_idx17_inb : ∀ (v856 : BitVec 32) (v862 : IVec S16 32) (k0_hw19 : k0_chk19 v856 v862), ∀ (k0_h3 : k0_cond3 v856 = 1#1), ∀ a x, ((![v862] : Fin 1 → IVec S16 32) a x).toNat < S32768.size a := fun v856 v862 k0_hw19 k0_h3 => k0_hw19 k0_h3

def k0_chk20 (v856 : BitVec 32) (v865 : IVec S16 32) : Prop :=
  (∀ (k0_h3 : k0_cond3 v856 = 1#1), ∀ a x, ((![v865] : Fin 1 → IVec S16 32) a x).toNat < S32768.size a)
theorem k0_idx18_inb : ∀ (v856 : BitVec 32) (v865 : IVec S16 32) (k0_hw20 : k0_chk20 v856 v865), ∀ (k0_h3 : k0_cond3 v856 = 1#1), ∀ a x, ((![v865] : Fin 1 → IVec S16 32) a x).toNat < S32768.size a := fun v856 v865 k0_hw20 k0_h3 => k0_hw20 k0_h3

def k0_chk21 (v856 : BitVec 32) (v868 : IVec S16 32) : Prop :=
  (∀ (k0_h3 : k0_cond3 v856 = 1#1), ∀ a x, ((![v868] : Fin 1 → IVec S16 32) a x).toNat < S32768.size a)
theorem k0_idx19_inb : ∀ (v856 : BitVec 32) (v868 : IVec S16 32) (k0_hw21 : k0_chk21 v856 v868), ∀ (k0_h3 : k0_cond3 v856 = 1#1), ∀ a x, ((![v868] : Fin 1 → IVec S16 32) a x).toNat < S32768.size a := fun v856 v868 k0_hw21 k0_h3 => k0_hw21 k0_h3

def k0_chk22 (v856 : BitVec 32) (v871 : IVec S16 32) : Prop :=
  (∀ (k0_h3 : k0_cond3 v856 = 1#1), ∀ a x, ((![v871] : Fin 1 → IVec S16 32) a x).toNat < S32768.size a)
theorem k0_idx20_inb : ∀ (v856 : BitVec 32) (v871 : IVec S16 32) (k0_hw22 : k0_chk22 v856 v871), ∀ (k0_h3 : k0_cond3 v856 = 1#1), ∀ a x, ((![v871] : Fin 1 → IVec S16 32) a x).toNat < S32768.size a := fun v856 v871 k0_hw22 k0_h3 => k0_hw22 k0_h3

def k0_chk23 (v856 : BitVec 32) (v874 : IVec S16 32) : Prop :=
  (∀ (k0_h3 : k0_cond3 v856 = 1#1), ∀ a x, ((![v874] : Fin 1 → IVec S16 32) a x).toNat < S32768.size a)
theorem k0_idx21_inb : ∀ (v856 : BitVec 32) (v874 : IVec S16 32) (k0_hw23 : k0_chk23 v856 v874), ∀ (k0_h3 : k0_cond3 v856 = 1#1), ∀ a x, ((![v874] : Fin 1 → IVec S16 32) a x).toNat < S32768.size a := fun v856 v874 k0_hw23 k0_h3 => k0_hw23 k0_h3

def k0_chk24 (v856 : BitVec 32) (v877 : IVec S16 32) : Prop :=
  (∀ (k0_h3 : k0_cond3 v856 = 1#1), ∀ a x, ((![v877] : Fin 1 → IVec S16 32) a x).toNat < S32768.size a)
theorem k0_idx22_inb : ∀ (v856 : BitVec 32) (v877 : IVec S16 32) (k0_hw24 : k0_chk24 v856 v877), ∀ (k0_h3 : k0_cond3 v856 = 1#1), ∀ a x, ((![v877] : Fin 1 → IVec S16 32) a x).toNat < S32768.size a := fun v856 v877 k0_hw24 k0_h3 => k0_hw24 k0_h3

def k0_chk25 (v856 : BitVec 32) (v880 : IVec S16 32) : Prop :=
  (∀ (k0_h3 : k0_cond3 v856 = 1#1), ∀ a x, ((![v880] : Fin 1 → IVec S16 32) a x).toNat < S32768.size a)
theorem k0_idx23_inb : ∀ (v856 : BitVec 32) (v880 : IVec S16 32) (k0_hw25 : k0_chk25 v856 v880), ∀ (k0_h3 : k0_cond3 v856 = 1#1), ∀ a x, ((![v880] : Fin 1 → IVec S16 32) a x).toNat < S32768.size a := fun v856 v880 k0_hw25 k0_h3 => k0_hw25 k0_h3

def k0_chk26 (v856 : BitVec 32) (v883 : IVec S16 32) : Prop :=
  (∀ (k0_h3 : k0_cond3 v856 = 1#1), ∀ a x, ((![v883] : Fin 1 → IVec S16 32) a x).toNat < S32768.size a)
theorem k0_idx24_inb : ∀ (v856 : BitVec 32) (v883 : IVec S16 32) (k0_hw26 : k0_chk26 v856 v883), ∀ (k0_h3 : k0_cond3 v856 = 1#1), ∀ a x, ((![v883] : Fin 1 → IVec S16 32) a x).toNat < S32768.size a := fun v856 v883 k0_hw26 k0_h3 => k0_hw26 k0_h3
@[reducible] def k0_t23_loop (v470 : BitVec 32) : Scf.Loop 32 :=
  let c0_i32_101 : BitVec 32 := 0#32
  let v471 : BitVec 32 := Scalar.subi v470 c0_i32_101
  let c1_i32_102 : BitVec 32 := 1#32
  let v473 : BitVec 32 := Scalar.divsi v471 c1_i32_102
  let v474 : BitVec 32 := Scalar.muli v473 c1_i32_102
  let v475 : BitVec 32 := Scalar.addi c0_i32_101 v474
  let c1_i32_103 : BitVec 32 := 1#32
  ⟨c0_i32_101, v475, c1_i32_103⟩

def k0_off27 (v470 : BitVec 32) (k0_t23 : Fin (k0_t23_loop v470).trips) : Fin 1 → Nat :=
  let c0_i32_101 : BitVec 32 := 0#32
  let c1_i32_103 : BitVec 32 := 1#32
  let arg11 : BitVec 32 := Scf.iv c0_i32_101 c1_i32_103 k0_t23
  let c16_i32 : BitVec 32 := 16#32
  let v786 : BitVec 32 := Scalar.muli arg11 c16_i32
  let v787 : Index := Scalar.indexCast v786
  ![v787.toNat]
@[reducible] def k0_t24_loop (v470 : BitVec 32) : Scf.Loop 32 :=
  let c0_i32_101 : BitVec 32 := 0#32
  let v471 : BitVec 32 := Scalar.subi v470 c0_i32_101
  let c1_i32_102 : BitVec 32 := 1#32
  let v473 : BitVec 32 := Scalar.divsi v471 c1_i32_102
  let v474 : BitVec 32 := Scalar.muli v473 c1_i32_102
  let v475 : BitVec 32 := Scalar.addi c0_i32_101 v474
  let v472 : BitVec 32 := Scalar.addi c0_i32_101 v471
  let c1_i32_104 : BitVec 32 := 1#32
  ⟨v475, v472, c1_i32_104⟩
def k0_off28 (v470 : BitVec 32) (k0_t24 : Fin (k0_t24_loop v470).trips) : Fin 1 → Nat :=
  let c0_i32_101 : BitVec 32 := 0#32
  let v471 : BitVec 32 := Scalar.subi v470 c0_i32_101
  let c1_i32_102 : BitVec 32 := 1#32
  let v473 : BitVec 32 := Scalar.divsi v471 c1_i32_102
  let v474 : BitVec 32 := Scalar.muli v473 c1_i32_102
  let v475 : BitVec 32 := Scalar.addi c0_i32_101 v474
  let c1_i32_104 : BitVec 32 := 1#32
  let arg11 : BitVec 32 := Scf.iv v475 c1_i32_104 k0_t24
  let c16_i32 : BitVec 32 := 16#32
  let v786 : BitVec 32 := Scalar.muli arg11 c16_i32
  let v787 : Index := Scalar.indexCast v786
  ![v787.toNat]
@[reducible] def k0_t25_loop : Scf.Loop 32 :=
  let c0_i32_105 : BitVec 32 := 0#32
  let c24_i32_106 : BitVec 32 := 24#32
  let v477 : BitVec 32 := Scalar.addi c0_i32_105 c24_i32_106
  let c1_i32_107 : BitVec 32 := 1#32
  ⟨c0_i32_105, v477, c1_i32_107⟩
@[reducible] def k0_t26_loop (v470 : BitVec 32) : Scf.Loop 32 :=
  let c0_i32_164 : BitVec 32 := 0#32
  let v789 : BitVec 32 := Scalar.subi v470 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let c1_i32_166 : BitVec 32 := 1#32
  ⟨c0_i32_164, v793, c1_i32_166⟩
def k0_off29 (v470 : BitVec 32) (k0_t26 : Fin (k0_t26_loop v470).trips) : Fin 1 → Nat :=
  let c0_i32_164 : BitVec 32 := 0#32
  let c1_i32_166 : BitVec 32 := 1#32
  let arg14 : BitVec 32 := Scf.iv c0_i32_164 c1_i32_166 k0_t26
  let c16_i32 : BitVec 32 := 16#32
  let v849 : BitVec 32 := Scalar.muli arg14 c16_i32
  let v850 : Index := Scalar.indexCast v849
  ![v850.toNat]
@[reducible] def k0_t27_loop (v470 : BitVec 32) : Scf.Loop 32 :=
  let c0_i32_164 : BitVec 32 := 0#32
  let v789 : BitVec 32 := Scalar.subi v470 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let v790 : BitVec 32 := Scalar.addi c0_i32_164 v789
  let c1_i32_167 : BitVec 32 := 1#32
  ⟨v793, v790, c1_i32_167⟩
def k0_off30 (v470 : BitVec 32) (k0_t27 : Fin (k0_t27_loop v470).trips) : Fin 1 → Nat :=
  let c0_i32_164 : BitVec 32 := 0#32
  let v789 : BitVec 32 := Scalar.subi v470 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let c1_i32_167 : BitVec 32 := 1#32
  let arg14 : BitVec 32 := Scf.iv v793 c1_i32_167 k0_t27
  let c16_i32 : BitVec 32 := 16#32
  let v849 : BitVec 32 := Scalar.muli arg14 c16_i32
  let v850 : Index := Scalar.indexCast v849
  ![v850.toNat]
@[reducible] def k0_t28_loop (v470 : BitVec 32) : Scf.Loop 32 :=
  let c0_i32_110 : BitVec 32 := 0#32
  let v480 : BitVec 32 := Scalar.subi v470 c0_i32_110
  let c1_i32_111 : BitVec 32 := 1#32
  let v482 : BitVec 32 := Scalar.divsi v480 c1_i32_111
  let v483 : BitVec 32 := Scalar.muli v482 c1_i32_111
  let v484 : BitVec 32 := Scalar.addi c0_i32_110 v483
  let c1_i32_112 : BitVec 32 := 1#32
  ⟨c0_i32_110, v484, c1_i32_112⟩
def k0_off31 (v470 : BitVec 32) (k0_t28 : Fin (k0_t28_loop v470).trips) : Fin 1 → Nat :=
  let c0_i32_110 : BitVec 32 := 0#32
  let c1_i32_112 : BitVec 32 := 1#32
  let arg11 : BitVec 32 := Scf.iv c0_i32_110 c1_i32_112 k0_t28
  let c16_i32 : BitVec 32 := 16#32
  let v785 : BitVec 32 := Scalar.muli arg11 c16_i32
  let v786 : Index := Scalar.indexCast v785
  ![v786.toNat]
@[reducible] def k0_t29_loop (v470 : BitVec 32) : Scf.Loop 32 :=
  let c0_i32_110 : BitVec 32 := 0#32
  let v480 : BitVec 32 := Scalar.subi v470 c0_i32_110
  let c1_i32_111 : BitVec 32 := 1#32
  let v482 : BitVec 32 := Scalar.divsi v480 c1_i32_111
  let v483 : BitVec 32 := Scalar.muli v482 c1_i32_111
  let v484 : BitVec 32 := Scalar.addi c0_i32_110 v483
  let v481 : BitVec 32 := Scalar.addi c0_i32_110 v480
  let c1_i32_113 : BitVec 32 := 1#32
  ⟨v484, v481, c1_i32_113⟩
def k0_off32 (v470 : BitVec 32) (k0_t29 : Fin (k0_t29_loop v470).trips) : Fin 1 → Nat :=
  let c0_i32_110 : BitVec 32 := 0#32
  let v480 : BitVec 32 := Scalar.subi v470 c0_i32_110
  let c1_i32_111 : BitVec 32 := 1#32
  let v482 : BitVec 32 := Scalar.divsi v480 c1_i32_111
  let v483 : BitVec 32 := Scalar.muli v482 c1_i32_111
  let v484 : BitVec 32 := Scalar.addi c0_i32_110 v483
  let c1_i32_113 : BitVec 32 := 1#32
  let arg11 : BitVec 32 := Scf.iv v484 c1_i32_113 k0_t29
  let c16_i32 : BitVec 32 := 16#32
  let v785 : BitVec 32 := Scalar.muli arg11 c16_i32
  let v786 : Index := Scalar.indexCast v785
  ![v786.toNat]

def k0_chk27 (v470 : BitVec 32) : Prop :=
  ((k0_t23_loop v470).OK) ∧
  (∀ k0_t23 : Fin (k0_t23_loop v470).trips, ∀ a, (k0_off27 v470 k0_t23) a + S16.size a ≤ S32768.size a) ∧
  ((k0_t24_loop v470).OK) ∧
  (∀ k0_t24 : Fin (k0_t24_loop v470).trips, ∀ a, (k0_off28 v470 k0_t24) a + S16.size a ≤ S32768.size a) ∧
  ((k0_t26_loop v470).OK) ∧
  (∀ k0_t26 : Fin (k0_t26_loop v470).trips, ∀ a, (k0_off29 v470 k0_t26) a + S16.size a ≤ S32768.size a) ∧
  ((k0_t27_loop v470).OK) ∧
  (∀ k0_t27 : Fin (k0_t27_loop v470).trips, ∀ a, (k0_off30 v470 k0_t27) a + S16.size a ≤ S32768.size a) ∧
  ((k0_t28_loop v470).OK) ∧
  (∀ k0_t28 : Fin (k0_t28_loop v470).trips, ∀ a, (k0_off31 v470 k0_t28) a + S16.size a ≤ S32768.size a) ∧
  ((k0_t29_loop v470).OK) ∧
  (∀ k0_t29 : Fin (k0_t29_loop v470).trips, ∀ a, (k0_off32 v470 k0_t29) a + S16.size a ≤ S32768.size a)
theorem k0_t23_ok : ∀ (v470 : BitVec 32) (k0_hw27 : k0_chk27 v470), (k0_t23_loop v470).OK := fun v470 k0_hw27 => k0_hw27.1
theorem k0_off27_inb : ∀ (v470 : BitVec 32) (k0_hw27 : k0_chk27 v470) (k0_t23 : Fin (k0_t23_loop v470).trips), ∀ a, (k0_off27 v470 k0_t23) a + S16.size a ≤ S32768.size a := fun v470 k0_hw27 k0_t23 => k0_hw27.2.1 k0_t23
theorem k0_t24_ok : ∀ (v470 : BitVec 32) (k0_hw27 : k0_chk27 v470), (k0_t24_loop v470).OK := fun v470 k0_hw27 => k0_hw27.2.2.1
theorem k0_off28_inb : ∀ (v470 : BitVec 32) (k0_hw27 : k0_chk27 v470) (k0_t24 : Fin (k0_t24_loop v470).trips), ∀ a, (k0_off28 v470 k0_t24) a + S16.size a ≤ S32768.size a := fun v470 k0_hw27 k0_t24 => k0_hw27.2.2.2.1 k0_t24
theorem k0_t26_ok : ∀ (v470 : BitVec 32) (k0_hw27 : k0_chk27 v470), (k0_t26_loop v470).OK := fun v470 k0_hw27 => k0_hw27.2.2.2.2.1
theorem k0_off29_inb : ∀ (v470 : BitVec 32) (k0_hw27 : k0_chk27 v470) (k0_t26 : Fin (k0_t26_loop v470).trips), ∀ a, (k0_off29 v470 k0_t26) a + S16.size a ≤ S32768.size a := fun v470 k0_hw27 k0_t26 => k0_hw27.2.2.2.2.2.1 k0_t26
theorem k0_t27_ok : ∀ (v470 : BitVec 32) (k0_hw27 : k0_chk27 v470), (k0_t27_loop v470).OK := fun v470 k0_hw27 => k0_hw27.2.2.2.2.2.2.1
theorem k0_off30_inb : ∀ (v470 : BitVec 32) (k0_hw27 : k0_chk27 v470) (k0_t27 : Fin (k0_t27_loop v470).trips), ∀ a, (k0_off30 v470 k0_t27) a + S16.size a ≤ S32768.size a := fun v470 k0_hw27 k0_t27 => k0_hw27.2.2.2.2.2.2.2.1 k0_t27
theorem k0_t28_ok : ∀ (v470 : BitVec 32) (k0_hw27 : k0_chk27 v470), (k0_t28_loop v470).OK := fun v470 k0_hw27 => k0_hw27.2.2.2.2.2.2.2.2.1
theorem k0_off31_inb : ∀ (v470 : BitVec 32) (k0_hw27 : k0_chk27 v470) (k0_t28 : Fin (k0_t28_loop v470).trips), ∀ a, (k0_off31 v470 k0_t28) a + S16.size a ≤ S32768.size a := fun v470 k0_hw27 k0_t28 => k0_hw27.2.2.2.2.2.2.2.2.2.1 k0_t28
theorem k0_t29_ok : ∀ (v470 : BitVec 32) (k0_hw27 : k0_chk27 v470), (k0_t29_loop v470).OK := fun v470 k0_hw27 => k0_hw27.2.2.2.2.2.2.2.2.2.2.1
theorem k0_off32_inb : ∀ (v470 : BitVec 32) (k0_hw27 : k0_chk27 v470) (k0_t29 : Fin (k0_t29_loop v470).trips), ∀ a, (k0_off32 v470 k0_t29) a + S16.size a ≤ S32768.size a := fun v470 k0_hw27 k0_t29 => k0_hw27.2.2.2.2.2.2.2.2.2.2.2 k0_t29

@[reducible] def k0_t30_loop : Scf.Loop 32 :=
  let c0_i32_115 : BitVec 32 := 0#32
  let c256_i32_116 : BitVec 32 := 256#32
  let v585 : BitVec 32 := Scalar.addi c0_i32_115 c256_i32_116
  let c1_i32_117 : BitVec 32 := 1#32
  ⟨c0_i32_115, v585, c1_i32_117⟩
def k0_off33 (k0_t30 : Fin k0_t30_loop.trips) (c0_i32_163 : BitVec 32) : Fin 1 → Nat :=
  let c0_i32_162 : BitVec 32 := 0#32
  let c0_i32_115 : BitVec 32 := 0#32
  let c1_i32_117 : BitVec 32 := 1#32
  let arg11 : BitVec 32 := Scf.iv c0_i32_115 c1_i32_117 k0_t30
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_119 : BitVec 32 := 2#32
  let v586 : BitVec 32 := Scalar.addi v2 c2_i32_119
  let c0_i32_120 : BitVec 32 := 0#32
  ![v586.toNat, 0]
def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_83 : BitVec 32 := 2#32
  let v403 : BitVec 32 := Scalar.addi v2 c2_i32_83
  let c1_i32_84 : BitVec 32 := 1#32
  let v404 : BitVec 32 := Scalar.addi v403 c1_i32_84
  let c0_i32_122 : BitVec 32 := 0#32
  ![v404.toNat, 0]
@[reducible] def k0_t31_loop : Scf.Loop 32 :=
  let c0_i32_125 : BitVec 32 := 0#32
  let c256_i32_126 : BitVec 32 := 256#32
  let v597 : BitVec 32 := Scalar.addi c0_i32_125 c256_i32_126
  let c1_i32_127 : BitVec 32 := 1#32
  ⟨c0_i32_125, v597, c1_i32_127⟩
def k0_off36 (k0_t31 : Fin k0_t31_loop.trips) (c0_i32_163 : BitVec 32) : Fin 1 → Nat :=
  let c0_i32_162 : BitVec 32 := 0#32
  let c0_i32_125 : BitVec 32 := 0#32
  let c1_i32_127 : BitVec 32 := 1#32
  let arg11 : BitVec 32 := Scf.iv c0_i32_125 c1_i32_127 k0_t31
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
@[reducible] def k0_t32_loop : Scf.Loop 32 :=
  let c0_i32_131 : BitVec 32 := 0#32
  let c256_i32_132 : BitVec 32 := 256#32
  let v649 : BitVec 32 := Scalar.addi c0_i32_131 c256_i32_132
  let c1_i32_133 : BitVec 32 := 1#32
  ⟨c0_i32_131, v649, c1_i32_133⟩
def k0_off37 (k0_t32 : Fin k0_t32_loop.trips) (c0_i32_163 : BitVec 32) : Fin 1 → Nat :=
  let c0_i32_162 : BitVec 32 := 0#32
  let c0_i32_131 : BitVec 32 := 0#32
  let c1_i32_133 : BitVec 32 := 1#32
  let arg11 : BitVec 32 := Scf.iv c0_i32_131 c1_i32_133 k0_t32
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
def k0_cond4 (v856 : BitVec 32) : BitVec 1 :=
  let c0_i32_177 : BitVec 32 := 0#32
  let v857 : BitVec 1 := Scalar.cmpi .sgt v856 c0_i32_177
  let v858 : BitVec 32 := Scalar.extui v857
  let c0_i32_178 : BitVec 32 := 0#32
  let v859 : BitVec 1 := Scalar.cmpi .ne v858 c0_i32_178
  v859

def k0_chk28 (v856 : BitVec 32) (v862 : IVec S16 32) : Prop :=
  (∀ (k0_h4 : k0_cond4 v856 = 1#1), ∀ a x, ((![v862] : Fin 1 → IVec S16 32) a x).toNat < S32768.size a)
theorem k0_idx25_inb : ∀ (v856 : BitVec 32) (v862 : IVec S16 32) (k0_hw28 : k0_chk28 v856 v862), ∀ (k0_h4 : k0_cond4 v856 = 1#1), ∀ a x, ((![v862] : Fin 1 → IVec S16 32) a x).toNat < S32768.size a := fun v856 v862 k0_hw28 k0_h4 => k0_hw28 k0_h4

def k0_chk29 (v856 : BitVec 32) (v865 : IVec S16 32) : Prop :=
  (∀ (k0_h4 : k0_cond4 v856 = 1#1), ∀ a x, ((![v865] : Fin 1 → IVec S16 32) a x).toNat < S32768.size a)
theorem k0_idx26_inb : ∀ (v856 : BitVec 32) (v865 : IVec S16 32) (k0_hw29 : k0_chk29 v856 v865), ∀ (k0_h4 : k0_cond4 v856 = 1#1), ∀ a x, ((![v865] : Fin 1 → IVec S16 32) a x).toNat < S32768.size a := fun v856 v865 k0_hw29 k0_h4 => k0_hw29 k0_h4

def k0_chk30 (v856 : BitVec 32) (v868 : IVec S16 32) : Prop :=
  (∀ (k0_h4 : k0_cond4 v856 = 1#1), ∀ a x, ((![v868] : Fin 1 → IVec S16 32) a x).toNat < S32768.size a)
theorem k0_idx27_inb : ∀ (v856 : BitVec 32) (v868 : IVec S16 32) (k0_hw30 : k0_chk30 v856 v868), ∀ (k0_h4 : k0_cond4 v856 = 1#1), ∀ a x, ((![v868] : Fin 1 → IVec S16 32) a x).toNat < S32768.size a := fun v856 v868 k0_hw30 k0_h4 => k0_hw30 k0_h4

def k0_chk31 (v856 : BitVec 32) (v871 : IVec S16 32) : Prop :=
  (∀ (k0_h4 : k0_cond4 v856 = 1#1), ∀ a x, ((![v871] : Fin 1 → IVec S16 32) a x).toNat < S32768.size a)
theorem k0_idx28_inb : ∀ (v856 : BitVec 32) (v871 : IVec S16 32) (k0_hw31 : k0_chk31 v856 v871), ∀ (k0_h4 : k0_cond4 v856 = 1#1), ∀ a x, ((![v871] : Fin 1 → IVec S16 32) a x).toNat < S32768.size a := fun v856 v871 k0_hw31 k0_h4 => k0_hw31 k0_h4

def k0_chk32 (v856 : BitVec 32) (v874 : IVec S16 32) : Prop :=
  (∀ (k0_h4 : k0_cond4 v856 = 1#1), ∀ a x, ((![v874] : Fin 1 → IVec S16 32) a x).toNat < S32768.size a)
theorem k0_idx29_inb : ∀ (v856 : BitVec 32) (v874 : IVec S16 32) (k0_hw32 : k0_chk32 v856 v874), ∀ (k0_h4 : k0_cond4 v856 = 1#1), ∀ a x, ((![v874] : Fin 1 → IVec S16 32) a x).toNat < S32768.size a := fun v856 v874 k0_hw32 k0_h4 => k0_hw32 k0_h4

def k0_chk33 (v856 : BitVec 32) (v877 : IVec S16 32) : Prop :=
  (∀ (k0_h4 : k0_cond4 v856 = 1#1), ∀ a x, ((![v877] : Fin 1 → IVec S16 32) a x).toNat < S32768.size a)
theorem k0_idx30_inb : ∀ (v856 : BitVec 32) (v877 : IVec S16 32) (k0_hw33 : k0_chk33 v856 v877), ∀ (k0_h4 : k0_cond4 v856 = 1#1), ∀ a x, ((![v877] : Fin 1 → IVec S16 32) a x).toNat < S32768.size a := fun v856 v877 k0_hw33 k0_h4 => k0_hw33 k0_h4

def k0_chk34 (v856 : BitVec 32) (v880 : IVec S16 32) : Prop :=
  (∀ (k0_h4 : k0_cond4 v856 = 1#1), ∀ a x, ((![v880] : Fin 1 → IVec S16 32) a x).toNat < S32768.size a)
theorem k0_idx31_inb : ∀ (v856 : BitVec 32) (v880 : IVec S16 32) (k0_hw34 : k0_chk34 v856 v880), ∀ (k0_h4 : k0_cond4 v856 = 1#1), ∀ a x, ((![v880] : Fin 1 → IVec S16 32) a x).toNat < S32768.size a := fun v856 v880 k0_hw34 k0_h4 => k0_hw34 k0_h4

def k0_chk35 (v856 : BitVec 32) (v883 : IVec S16 32) : Prop :=
  (∀ (k0_h4 : k0_cond4 v856 = 1#1), ∀ a x, ((![v883] : Fin 1 → IVec S16 32) a x).toNat < S32768.size a)
theorem k0_idx32_inb : ∀ (v856 : BitVec 32) (v883 : IVec S16 32) (k0_hw35 : k0_chk35 v856 v883), ∀ (k0_h4 : k0_cond4 v856 = 1#1), ∀ a x, ((![v883] : Fin 1 → IVec S16 32) a x).toNat < S32768.size a := fun v856 v883 k0_hw35 k0_h4 => k0_hw35 k0_h4
@[reducible] def k0_t33_loop (v656 : BitVec 32) : Scf.Loop 32 :=
  let c0_i32_138 : BitVec 32 := 0#32
  let v657 : BitVec 32 := Scalar.subi v656 c0_i32_138
  let c1_i32_139 : BitVec 32 := 1#32
  let v659 : BitVec 32 := Scalar.divsi v657 c1_i32_139
  let v660 : BitVec 32 := Scalar.muli v659 c1_i32_139
  let v661 : BitVec 32 := Scalar.addi c0_i32_138 v660
  let c1_i32_140 : BitVec 32 := 1#32
  ⟨c0_i32_138, v661, c1_i32_140⟩

def k0_off38 (v656 : BitVec 32) (k0_t33 : Fin (k0_t33_loop v656).trips) : Fin 1 → Nat :=
  let c0_i32_138 : BitVec 32 := 0#32
  let c1_i32_140 : BitVec 32 := 1#32
  let arg11 : BitVec 32 := Scf.iv c0_i32_138 c1_i32_140 k0_t33
  let c16_i32 : BitVec 32 := 16#32
  let v786 : BitVec 32 := Scalar.muli arg11 c16_i32
  let v787 : Index := Scalar.indexCast v786
  ![v787.toNat]
@[reducible] def k0_t34_loop (v656 : BitVec 32) : Scf.Loop 32 :=
  let c0_i32_138 : BitVec 32 := 0#32
  let v657 : BitVec 32 := Scalar.subi v656 c0_i32_138
  let c1_i32_139 : BitVec 32 := 1#32
  let v659 : BitVec 32 := Scalar.divsi v657 c1_i32_139
  let v660 : BitVec 32 := Scalar.muli v659 c1_i32_139
  let v661 : BitVec 32 := Scalar.addi c0_i32_138 v660
  let v658 : BitVec 32 := Scalar.addi c0_i32_138 v657
  let c1_i32_141 : BitVec 32 := 1#32
  ⟨v661, v658, c1_i32_141⟩
def k0_off39 (v656 : BitVec 32) (k0_t34 : Fin (k0_t34_loop v656).trips) : Fin 1 → Nat :=
  let c0_i32_138 : BitVec 32 := 0#32
  let v657 : BitVec 32 := Scalar.subi v656 c0_i32_138
  let c1_i32_139 : BitVec 32 := 1#32
  let v659 : BitVec 32 := Scalar.divsi v657 c1_i32_139
  let v660 : BitVec 32 := Scalar.muli v659 c1_i32_139
  let v661 : BitVec 32 := Scalar.addi c0_i32_138 v660
  let c1_i32_141 : BitVec 32 := 1#32
  let arg11 : BitVec 32 := Scf.iv v661 c1_i32_141 k0_t34
  let c16_i32 : BitVec 32 := 16#32
  let v786 : BitVec 32 := Scalar.muli arg11 c16_i32
  let v787 : Index := Scalar.indexCast v786
  ![v787.toNat]
@[reducible] def k0_t35_loop : Scf.Loop 32 :=
  let c0_i32_142 : BitVec 32 := 0#32
  let c24_i32_143 : BitVec 32 := 24#32
  let v663 : BitVec 32 := Scalar.addi c0_i32_142 c24_i32_143
  let c1_i32_144 : BitVec 32 := 1#32
  ⟨c0_i32_142, v663, c1_i32_144⟩
@[reducible] def k0_t36_loop (v656 : BitVec 32) : Scf.Loop 32 :=
  let c0_i32_164 : BitVec 32 := 0#32
  let v789 : BitVec 32 := Scalar.subi v656 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let c1_i32_166 : BitVec 32 := 1#32
  ⟨c0_i32_164, v793, c1_i32_166⟩
def k0_off40 (v656 : BitVec 32) (k0_t36 : Fin (k0_t36_loop v656).trips) : Fin 1 → Nat :=
  let c0_i32_164 : BitVec 32 := 0#32
  let c1_i32_166 : BitVec 32 := 1#32
  let arg14 : BitVec 32 := Scf.iv c0_i32_164 c1_i32_166 k0_t36
  let c16_i32 : BitVec 32 := 16#32
  let v849 : BitVec 32 := Scalar.muli arg14 c16_i32
  let v850 : Index := Scalar.indexCast v849
  ![v850.toNat]
@[reducible] def k0_t37_loop (v656 : BitVec 32) : Scf.Loop 32 :=
  let c0_i32_164 : BitVec 32 := 0#32
  let v789 : BitVec 32 := Scalar.subi v656 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let v790 : BitVec 32 := Scalar.addi c0_i32_164 v789
  let c1_i32_167 : BitVec 32 := 1#32
  ⟨v793, v790, c1_i32_167⟩
def k0_off41 (v656 : BitVec 32) (k0_t37 : Fin (k0_t37_loop v656).trips) : Fin 1 → Nat :=
  let c0_i32_164 : BitVec 32 := 0#32
  let v789 : BitVec 32 := Scalar.subi v656 c0_i32_164
  let c1_i32_165 : BitVec 32 := 1#32
  let v791 : BitVec 32 := Scalar.divsi v789 c1_i32_165
  let v792 : BitVec 32 := Scalar.muli v791 c1_i32_165
  let v793 : BitVec 32 := Scalar.addi c0_i32_164 v792
  let c1_i32_167 : BitVec 32 := 1#32
  let arg14 : BitVec 32 := Scf.iv v793 c1_i32_167 k0_t37
  let c16_i32 : BitVec 32 := 16#32
  let v849 : BitVec 32 := Scalar.muli arg14 c16_i32
  let v850 : Index := Scalar.indexCast v849
  ![v850.toNat]
@[reducible] def k0_t38_loop (v656 : BitVec 32) : Scf.Loop 32 :=
  let c0_i32_147 : BitVec 32 := 0#32
  let v666 : BitVec 32 := Scalar.subi v656 c0_i32_147
  let c1_i32_148 : BitVec 32 := 1#32
  let v668 : BitVec 32 := Scalar.divsi v666 c1_i32_148
  let v669 : BitVec 32 := Scalar.muli v668 c1_i32_148
  let v670 : BitVec 32 := Scalar.addi c0_i32_147 v669
  let c1_i32_149 : BitVec 32 := 1#32
  ⟨c0_i32_147, v670, c1_i32_149⟩
def k0_off42 (v656 : BitVec 32) (k0_t38 : Fin (k0_t38_loop v656).trips) : Fin 1 → Nat :=
  let c0_i32_147 : BitVec 32 := 0#32
  let c1_i32_149 : BitVec 32 := 1#32
  let arg11 : BitVec 32 := Scf.iv c0_i32_147 c1_i32_149 k0_t38
  let c16_i32 : BitVec 32 := 16#32
  let v785 : BitVec 32 := Scalar.muli arg11 c16_i32
  let v786 : Index := Scalar.indexCast v785
  ![v786.toNat]
@[reducible] def k0_t39_loop (v656 : BitVec 32) : Scf.Loop 32 :=
  let c0_i32_147 : BitVec 32 := 0#32
  let v666 : BitVec 32 := Scalar.subi v656 c0_i32_147
  let c1_i32_148 : BitVec 32 := 1#32
  let v668 : BitVec 32 := Scalar.divsi v666 c1_i32_148
  let v669 : BitVec 32 := Scalar.muli v668 c1_i32_148
  let v670 : BitVec 32 := Scalar.addi c0_i32_147 v669
  let v667 : BitVec 32 := Scalar.addi c0_i32_147 v666
  let c1_i32_150 : BitVec 32 := 1#32
  ⟨v670, v667, c1_i32_150⟩
def k0_off43 (v656 : BitVec 32) (k0_t39 : Fin (k0_t39_loop v656).trips) : Fin 1 → Nat :=
  let c0_i32_147 : BitVec 32 := 0#32
  let v666 : BitVec 32 := Scalar.subi v656 c0_i32_147
  let c1_i32_148 : BitVec 32 := 1#32
  let v668 : BitVec 32 := Scalar.divsi v666 c1_i32_148
  let v669 : BitVec 32 := Scalar.muli v668 c1_i32_148
  let v670 : BitVec 32 := Scalar.addi c0_i32_147 v669
  let c1_i32_150 : BitVec 32 := 1#32
  let arg11 : BitVec 32 := Scf.iv v670 c1_i32_150 k0_t39
  let c16_i32 : BitVec 32 := 16#32
  let v785 : BitVec 32 := Scalar.muli arg11 c16_i32
  let v786 : Index := Scalar.indexCast v785
  ![v786.toNat]

def k0_chk36 (v656 : BitVec 32) : Prop :=
  ((k0_t33_loop v656).OK) ∧
  (∀ k0_t33 : Fin (k0_t33_loop v656).trips, ∀ a, (k0_off38 v656 k0_t33) a + S16.size a ≤ S32768.size a) ∧
  ((k0_t34_loop v656).OK) ∧
  (∀ k0_t34 : Fin (k0_t34_loop v656).trips, ∀ a, (k0_off39 v656 k0_t34) a + S16.size a ≤ S32768.size a) ∧
  ((k0_t36_loop v656).OK) ∧
  (∀ k0_t36 : Fin (k0_t36_loop v656).trips, ∀ a, (k0_off40 v656 k0_t36) a + S16.size a ≤ S32768.size a) ∧
  ((k0_t37_loop v656).OK) ∧
  (∀ k0_t37 : Fin (k0_t37_loop v656).trips, ∀ a, (k0_off41 v656 k0_t37) a + S16.size a ≤ S32768.size a) ∧
  ((k0_t38_loop v656).OK) ∧
  (∀ k0_t38 : Fin (k0_t38_loop v656).trips, ∀ a, (k0_off42 v656 k0_t38) a + S16.size a ≤ S32768.size a) ∧
  ((k0_t39_loop v656).OK) ∧
  (∀ k0_t39 : Fin (k0_t39_loop v656).trips, ∀ a, (k0_off43 v656 k0_t39) a + S16.size a ≤ S32768.size a)
theorem k0_t33_ok : ∀ (v656 : BitVec 32) (k0_hw36 : k0_chk36 v656), (k0_t33_loop v656).OK := fun v656 k0_hw36 => k0_hw36.1
theorem k0_off38_inb : ∀ (v656 : BitVec 32) (k0_hw36 : k0_chk36 v656) (k0_t33 : Fin (k0_t33_loop v656).trips), ∀ a, (k0_off38 v656 k0_t33) a + S16.size a ≤ S32768.size a := fun v656 k0_hw36 k0_t33 => k0_hw36.2.1 k0_t33
theorem k0_t34_ok : ∀ (v656 : BitVec 32) (k0_hw36 : k0_chk36 v656), (k0_t34_loop v656).OK := fun v656 k0_hw36 => k0_hw36.2.2.1
theorem k0_off39_inb : ∀ (v656 : BitVec 32) (k0_hw36 : k0_chk36 v656) (k0_t34 : Fin (k0_t34_loop v656).trips), ∀ a, (k0_off39 v656 k0_t34) a + S16.size a ≤ S32768.size a := fun v656 k0_hw36 k0_t34 => k0_hw36.2.2.2.1 k0_t34
theorem k0_t36_ok : ∀ (v656 : BitVec 32) (k0_hw36 : k0_chk36 v656), (k0_t36_loop v656).OK := fun v656 k0_hw36 => k0_hw36.2.2.2.2.1
theorem k0_off40_inb : ∀ (v656 : BitVec 32) (k0_hw36 : k0_chk36 v656) (k0_t36 : Fin (k0_t36_loop v656).trips), ∀ a, (k0_off40 v656 k0_t36) a + S16.size a ≤ S32768.size a := fun v656 k0_hw36 k0_t36 => k0_hw36.2.2.2.2.2.1 k0_t36
theorem k0_t37_ok : ∀ (v656 : BitVec 32) (k0_hw36 : k0_chk36 v656), (k0_t37_loop v656).OK := fun v656 k0_hw36 => k0_hw36.2.2.2.2.2.2.1
theorem k0_off41_inb : ∀ (v656 : BitVec 32) (k0_hw36 : k0_chk36 v656) (k0_t37 : Fin (k0_t37_loop v656).trips), ∀ a, (k0_off41 v656 k0_t37) a + S16.size a ≤ S32768.size a := fun v656 k0_hw36 k0_t37 => k0_hw36.2.2.2.2.2.2.2.1 k0_t37
theorem k0_t38_ok : ∀ (v656 : BitVec 32) (k0_hw36 : k0_chk36 v656), (k0_t38_loop v656).OK := fun v656 k0_hw36 => k0_hw36.2.2.2.2.2.2.2.2.1
theorem k0_off42_inb : ∀ (v656 : BitVec 32) (k0_hw36 : k0_chk36 v656) (k0_t38 : Fin (k0_t38_loop v656).trips), ∀ a, (k0_off42 v656 k0_t38) a + S16.size a ≤ S32768.size a := fun v656 k0_hw36 k0_t38 => k0_hw36.2.2.2.2.2.2.2.2.2.1 k0_t38
theorem k0_t39_ok : ∀ (v656 : BitVec 32) (k0_hw36 : k0_chk36 v656), (k0_t39_loop v656).OK := fun v656 k0_hw36 => k0_hw36.2.2.2.2.2.2.2.2.2.2.1
theorem k0_off43_inb : ∀ (v656 : BitVec 32) (k0_hw36 : k0_chk36 v656) (k0_t39 : Fin (k0_t39_loop v656).trips), ∀ a, (k0_off43 v656 k0_t39) a + S16.size a ≤ S32768.size a := fun v656 k0_hw36 k0_t39 => k0_hw36.2.2.2.2.2.2.2.2.2.2.2 k0_t39

@[reducible] def k0_t40_loop : Scf.Loop 32 :=
  let c0_i32_152 : BitVec 32 := 0#32
  let c256_i32_153 : BitVec 32 := 256#32
  let v771 : BitVec 32 := Scalar.addi c0_i32_152 c256_i32_153
  let c1_i32_154 : BitVec 32 := 1#32
  ⟨c0_i32_152, v771, c1_i32_154⟩
def k0_off44 (k0_t40 : Fin k0_t40_loop.trips) (c0_i32_163 : BitVec 32) : Fin 1 → Nat :=
  let c0_i32_162 : BitVec 32 := 0#32
  let c0_i32_152 : BitVec 32 := 0#32
  let c1_i32_154 : BitVec 32 := 1#32
  let arg11 : BitVec 32 := Scf.iv c0_i32_152 c1_i32_154 k0_t40
  let c8_i32 : BitVec 32 := 8#32
  let v785 : BitVec 32 := Scalar.muli arg11 c8_i32
  let v786 : BitVec 32 := Scalar.addi c0_i32_162 v785
  let v787 : BitVec 32 := Scalar.addi v786 c0_i32_163
  let c16_i32 : BitVec 32 := 16#32
  let v788 : BitVec 32 := Scalar.muli v787 c16_i32
  let v789 : Index := Scalar.indexCast v788
  ![v789.toNat]
def k0_off45 (i : grid0.Coords) (c3_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v772 : BitVec 32 := Scalar.addi v2 c3_i32
  let c0_i32_156 : BitVec 32 := 0#32
  ![v772.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "below_all" => some ⊥
  | _ => none
-- ==== ReferenceIdeal.lean ====
abbrev S128x32768 : Shape := ⟨2, ![128, 32768]⟩
abbrev S_ : Shape := ⟨0, ![]⟩
abbrev S32768 : Shape := ⟨1, ![32768]⟩
abbrev S1x32768 : Shape := ⟨2, ![1, 32768]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S128x32768, .f32⟩
  | .hbm, ⟨3, _⟩ => ⟨S128x32768, .f32⟩
  | .hbm, ⟨4, _⟩ => ⟨S_, .f32⟩
  | .hbm, ⟨5, _⟩ => ⟨S_, .f32⟩
  | .hbm, ⟨6, _⟩ => ⟨S128x32768, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S_, .f32⟩
  | .hbm, ⟨12, _⟩ => ⟨S128x32768, .f32⟩
  | .hbm, ⟨13, _⟩ => ⟨S128x32768, .f32⟩
  | .hbm, ⟨14, _⟩ => ⟨S1x32768, .f32⟩
  | .hbm, ⟨15, _⟩ => ⟨S128x32768, .f32⟩
  | .hbm, ⟨16, _⟩ => ⟨S128x32768, .f32⟩
  | .hbm, ⟨17, _⟩ => ⟨S128x32768, .f32⟩
  | .hbm, ⟨18, _⟩ => ⟨S_, .f32⟩
  | .hbm, ⟨19, _⟩ => ⟨S128x32768, .f32⟩
  | .hbm, ⟨20, _⟩ => ⟨S128x32768, .i1⟩
  | .hbm, ⟨21, _⟩ => ⟨S128x32768, .i32⟩
  | .hbm, ⟨22, _⟩ => ⟨S_, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x1, .i32⟩
  | .hbm, ⟨38, _⟩ => ⟨S128x1x1, .i32⟩
  | .hbm, ⟨39, _⟩ => ⟨S1, .i32⟩
  | .hbm, ⟨40, _⟩ => ⟨S_, .i32⟩
  | .hbm, ⟨41, _⟩ => ⟨S128x1x1, .i32⟩
  | .hbm, ⟨42, _⟩ => ⟨S128x1x1, .i1⟩
  | .hbm, ⟨43, _⟩ => ⟨S1x1x1, .i32⟩
  | .hbm, ⟨44, _⟩ => ⟨S128x1x1, .i32⟩
  | .hbm, ⟨45, _⟩ => ⟨S128x1x1, .i1⟩
  | .hbm, ⟨46, _⟩ => ⟨S128x1x1, .i1⟩
  | .hbm, ⟨47, _⟩ => ⟨S_, .i1⟩
  | .hbm, ⟨48, _⟩ => ⟨S128x1, .i1⟩
  | .hbm, ⟨49, _⟩ => ⟨S128x1, .f32⟩
  | .hbm, ⟨50, _⟩ => ⟨S_, .f32⟩
  | .hbm, ⟨51, _⟩ => ⟨S128x1, .f32⟩
  | .hbm, ⟨52, _⟩ => ⟨S128x1, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128x1, .f32⟩
  | .hbm, ⟨60, _⟩ => ⟨S128x32768, .f32⟩
  | .hbm, ⟨61, _⟩ => ⟨S128x32768, .f32⟩
  | .hbm, ⟨62, _⟩ => ⟨S_, .f32⟩
  | .hbm, ⟨63, _⟩ => ⟨S128x32768, .f32⟩
  | .hbm, ⟨64, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call1_call0_cst : Ref sig .tc := ⟨.hbm, 4, rfl⟩
abbrev main_call1_call0_v0 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩

abbrev nD : Nat := 1
abbrev τ : Topo := Topo.v7x

variable {F : FTy → Type} [FloatOps F]
-- ==== Proof.Setup.lean ====
/-
  The launch set-up: the program as the launch theorem sees it, the resource algebra, the body's memrefs.
-/
module

public import proofs.«01_k».proof.Defs
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev MM (F : FTy → Type) := MT nD τ sig (HIx 1) (Elt F) ℕ UU ℕ

abbrev EH : Emb UH (MT nD τ sig (HIx 1) (Elt F) ℕ UU ℕ) := embL

/-- The core and the subcore of a task's coordinates. -/
abbrev cV (L : grid0.Coords) : Fin τ.nSC := (L 0).castLE hcore0
abbrev jV (L : grid0.Coords) : Fin τ.nSub := (L 1).castLE hsub0

end Cert.Proof
-- ==== Proof.Model.lean ====
/-
  What one row's computation leaves, as a function of the row: the loops of the printed body over plain
  functions, with the printed operations, at any float interpretation. The candidate buffer starts at arbitrary
  contents.
-/
module

public import proofs.«01_k».proof.Proof.Setup

@[expose] public section

noncomputable section

namespace Cert.Proof

open Cert.KernelIdeal Cert.KernelIdeal.Gen
open Idealize.ShloMosaic Idealize.SL.Sem

variable {F : FTy → Type}

/-- A counted loop: `f` at `0, 1, …, n-1`. -/
def iter {α : Type} (f : ℕ → α → α) (a : α) : ℕ → α
  | 0 => a
  | n + 1 => f n (iter f a n)

abbrev Row (F : FTy → Type) : Type := Vec F S32768 .f32
abbrev V16 (F : FTy → Type) : Type := FVec F S16 .f32

/-- A flat position of a row. -/
def pos (n : ℕ) : S32768.Idx := fun a => ⟨n % 32768, by
  match a with | 0 => exact Nat.mod_lt _ (by decide)⟩
/-- A lane of a vector. -/
def lane (n : ℕ) : S16.Idx := fun a => ⟨n % 16, by
  match a with | 0 => exact Nat.mod_lt _ (by decide)⟩

/-- The sixteen elements from `o` on. -/
def sl (x : Row F) (o : ℕ) : V16 F := fun l => x (pos (o + (l 0).val))
/-- The sixteen elements from `o` on overwritten by `v`. -/
def put (x : Row F) (o : ℕ) (v : V16 F) : Row F := fun p =>
  if o ≤ (p 0).val ∧ (p 0).val < o + 16 then v (lane ((p 0).val - o)) else x p

section Ops
variable [FloatOps F]

/-- The maximum of a vector's lanes, in the printed order. -/
def laneMax (v : V16 F) : F .f32 :=
  let e := fun (k : ℕ) (h : S16.Slices ![k] S1) => extractAt ![0] (extractStridedSlice S1 ![k] v h) inpos_S1_p0
  let m := fun (a b : F .f32) => Scalar.maximumf a b
  m (m (m (m (m (m (m (m (m (m (m (m (m (m (m (e 0 slices_S16_o0_S1) (e 1 slices_S16_o1_S1)) (e 2 slices_S16_o2_S1)) (e 3 slices_S16_o3_S1))
    (e 4 slices_S16_o4_S1)) (e 5 slices_S16_o5_S1)) (e 6 slices_S16_o6_S1)) (e 7 slices_S16_o7_S1)) (e 8 slices_S16_o8_S1))
    (e 9 slices_S16_o9_S1)) (e 10 slices_S16_o10_S1)) (e 11 slices_S16_o11_S1)) (e 12 slices_S16_o12_S1)) (e 13 slices_S16_o13_S1))
    (e 14 slices_S16_o14_S1)) (e 15 slices_S16_o15_S1)

/-- The sum of a vector's lanes, in the printed order. -/
def laneSum (v : V16 F) : F .f32 :=
  let e := fun (k : ℕ) (h : S16.Slices ![k] S1) => extractAt ![0] (extractStridedSlice S1 ![k] v h) inpos_S1_p0
  let m := fun (a b : F .f32) => Scalar.addf a b
  m (m (m (m (m (m (m (m (m (m (m (m (m (m (m (e 0 slices_S16_o0_S1) (e 1 slices_S16_o1_S1)) (e 2 slices_S16_o2_S1)) (e 3 slices_S16_o3_S1))
    (e 4 slices_S16_o4_S1)) (e 5 slices_S16_o5_S1)) (e 6 slices_S16_o6_S1)) (e 7 slices_S16_o7_S1)) (e 8 slices_S16_o8_S1))
    (e 9 slices_S16_o9_S1)) (e 10 slices_S16_o10_S1)) (e 11 slices_S16_o11_S1)) (e 12 slices_S16_o12_S1)) (e 13 slices_S16_o13_S1))
    (e 14 slices_S16_o14_S1)) (e 15 slices_S16_o15_S1)

/-- The largest of sixteen nonnegative words, as printed. -/
def maxw (c : IVec S16 32) : BitVec 32 :=
  extractAt ![15] (xori (scan .max (xori c (broadcast S16 2147483648#32))) (broadcast S16 2147483648#32)) inpos_S16_p15

/-- A vector of one constant. -/
abbrev bc (b : BitVec 32) : V16 F := broadcast S16 (Scalar.ofBits .f32 b)

/-- One trip of the maximum: eight slices joined into the running one. -/
def maxStep (x : Row F) (t : ℕ) (acc : V16 F) : V16 F :=
  let s := fun u => sl x (128 * t + 16 * u)
  maximumf acc (maximumf (maximumf (maximumf (s 0) (s 1)) (maximumf (s 2) (s 3))) (maximumf (maximumf (s 4) (s 5)) (maximumf (s 6) (s 7))))

/-- The row's maximum. -/
def rowMax (neg : F .f32) (x : Row F) : F .f32 := laneMax (iter (maxStep x) (broadcast S16 neg) 256)

/-- The lanes of slice `o` above the threshold. -/
def msk (x : Row F) (c : V16 F) (o : ℕ) : IVec S16 1 := cmpf .ogt (sl x o) c

/-- The lane numbers. -/
abbrev lanes : IVec S16 32 := iota .scVector S16 32 [0] iota_S16_d0_w32_scVector

/-- One slice's scatter: the lanes above the threshold, each into its lane's next slot. -/
def scat (x : Row F) (c : V16 F) (o : ℕ) (cnt : IVec S16 32) (g : Row F) : Row F :=
  let idx : IVec S16 32 := addi (muli cnt (broadcast S16 16#32)) lanes
  if h : ∀ a l, ((![idx] : Fin 1 → IVec S16 32) a l).toNat < S32768.size a then
    storeIdx g ![idx] (sl x o) (msk x c o) false h else g

/-- The lanes' counters after slice `o`. -/
def cstep (x : Row F) (c : V16 F) (o : ℕ) (cnt : IVec S16 32) : IVec S16 32 := addi cnt (extui 32 (msk x c o) natLt_1_32)

/-- The counters after `u` slices of trip `t`. -/
def cnts (x : Row F) (c : V16 F) (t : ℕ) (cnt : IVec S16 32) (u : ℕ) : IVec S16 32 :=
  iter (fun u n => cstep x c (128 * t + 16 * u) n) cnt u

/-- The word that decides whether trip `t` stores anything. -/
def anyw (x : Row F) (c : V16 F) (t : ℕ) : BitVec 32 :=
  let s := fun u => msk x c (128 * t + 16 * u)
  maxw (extui 32 (ori (ori (ori (ori (ori (ori (ori (s 0) (s 1)) (s 2)) (s 3)) (s 4)) (s 5)) (s 6)) (s 7)) natLt_1_32)

/-- One trip of the compaction: counters and candidates. -/
def compStep (x : Row F) (c : V16 F) (t : ℕ) (p : IVec S16 32 × Row F) : IVec S16 32 × Row F :=
  (cnts x c t p.1 8,
    if k0_cond1 (anyw x c t) = 1#1 then iter (fun u g => scat x c (128 * t + 16 * u) (cnts x c t p.1 u) g) p.2 8 else p.2)

/-- The counters and the candidates after `n` trips. -/
def comp (x : Row F) (c : V16 F) (g : Row F) (n : ℕ) : IVec S16 32 × Row F :=
  iter (compStep x c) (broadcast S16 0#32, g) n

/-- One trip of the clearing: row `k` of the candidates, lanes beyond their counter overwritten by `neg`. -/
def clearStep (neg : F .f32) (cnt : IVec S16 32) (k : ℕ) (g : Row F) : Row F :=
  put g (16 * k) (select (cmpi .slt (broadcast S16 (BitVec.ofNat 32 k)) cnt) (sl g (16 * k)) (broadcast S16 neg))

/-- The positive parts of the candidates' differences from `mid`, summed per lane. -/
def excess (g : Row F) (mid : V16 F) (n : ℕ) : V16 F :=
  iter (fun k acc => addf acc (maximumf (subf (sl g (16 * k)) mid) (bc 0x00000000#32))) (bc 0x00000000#32) n

/-- One bisection step. -/
def bisStep (g : Row F) (n : ℕ) (p : V16 F × V16 F) : V16 F × V16 F :=
  let mid := mulf (bc 0x3F000000#32) (addf p.1 p.2)
  let f := Scalar.subf (laneSum (excess g mid n)) (Scalar.ofBits .f32 0x3F800000#32)
  let ge := cmpf .oge (broadcast S16 f) (bc 0x00000000#32)
  (select ge mid p.1, select ge p.2 mid)

/-- One trip of the refinement: the candidates above `lo`, their sums and their counts. -/
def refStep (g : Row F) (lo : V16 F) (k : ℕ) (p : V16 F × V16 F) : V16 F × V16 F :=
  let m := cmpf .ogt (sl g (16 * k)) lo
  (addf p.1 (select m (sl g (16 * k)) (bc 0x00000000#32)), addf p.2 (select m (bc 0x3F800000#32) (bc 0x00000000#32)))

/-- The threshold from the cleared candidates. -/
def theta (g : Row F) (lo : V16 F) (n : ℕ) : V16 F :=
  let p := iter (refStep g lo) (bc 0x00000000#32, bc 0x00000000#32) n
  divf (broadcast S16 (Scalar.subf (laneSum p.1) (Scalar.ofBits .f32 0x3F800000#32))) (broadcast S16 (laneSum p.2))

/-- One slice of the output: the positive part of the difference from the threshold, in place. -/
def outPut (th : V16 F) (o : ℕ) (x : Row F) : Row F := put x o (maximumf (subf (sl x o) th) (bc 0x00000000#32))

/-- One trip of the output. -/
def outStep (th : V16 F) (t : ℕ) (x : Row F) : Row F := iter (fun u x => outPut th (128 * t + 16 * u) x) x 8

/-- The threshold of compaction: the row's maximum less one. -/
def cut (neg : F .f32) (x : Row F) : V16 F := broadcast S16 (Scalar.subf (rowMax neg x) (Scalar.ofBits .f32 0x3F800000#32))

/-- The largest counter. -/
def maxn (neg : F .f32) (x g : Row F) : BitVec 32 := maxw (comp x (cut neg x) g 256).1

/-- The candidates, cleared. -/
def cands (neg : F .f32) (x g : Row F) : Row F :=
  iter (clearStep neg (comp x (cut neg x) g 256).1) (comp x (cut neg x) g 256).2 (maxn neg x g).toNat

/-- The bracket after the bisections. -/
def bracket (neg : F .f32) (x g : Row F) : V16 F × V16 F :=
  iter (fun _ => bisStep (cands neg x g) (maxn neg x g).toNat) (cut neg x, broadcast S16 (rowMax neg x)) 24

/-- The row's threshold. -/
def rowTheta (neg : F .f32) (x g : Row F) : V16 F := theta (cands neg x g) (bracket neg x g).1 (maxn neg x g).toNat

/-- The row's result. -/
def rowOut (neg : F .f32) (x g : Row F) : Row F := iter (outStep (rowTheta neg x g)) x 256

end Ops

end Cert.Proof
-- ==== Proof.Rules.lean ====
/-
  Loads, stores and scatters of a vector buffer known by what its memref reads.
-/
module

public import proofs.«01_k».proof.Proof.Model

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev tv (d : Dev nD) (L : grid0.Coords) : Thread nD τ := V d (cV L) (jV L)
/-- The type of a vector buffer. -/
abbrev VBuf : Type := Memref sig .scVector .vmem S32768 .f32

/-- The buffer held whole, reading `x`. -/
def pt (d : Dev nD) (L : grid0.Coords) (b : VBuf) (x : Row F) : sProp 𝕄 :=
  iprop(∃ f : Buf (Elt F) (b.view.loc (tv d L)), ⌜b.view.read (Elt F) f = x⌝ ∗ (b.view.loc (tv d L) ↦[b.view.set]{fullShare} f))

theorem emb_unit (off : Fin 1 → ℕ) (h : ∀ a, off a + S16.size a ≤ S32768.size a) (l : S16.Idx) :
    (Rect.unit (s := S32768) off S16.size h).emb l = pos (off 0 + (l 0).val) := by
  funext a
  match a with
  | 0 =>
    apply Fin.ext
    have h0 := h 0
    have hl := (l 0).isLt
    show off 0 + 1 * (l 0).val = (off 0 + (l 0).val) % 32768
    have h1 : S16.size 0 = 16 := rfl
    have h2 : S32768.size 0 = 32768 := rfl
    have h3 : (l 0).val < 16 := hl
    rw [Nat.mod_eq_of_lt (by omega)]; omega

variable [FloatOps F] [Named F]
variable (d : Dev nD) (L : grid0.Coords)

/-- A program of a task at coordinates `L`. -/
abbrev Pr (F : FTy → Type) (L : grid0.Coords) : Type → Type 1 := Prog (TpuEff nD τ sig (Elt F) Λ₀ (.scVector (cV L) (jV L)))
/-- The task's program run on its thread of device `d`. -/
abbrev WP {α : Type} (p : Pr F L α) (Q : α → sProp 𝕄) : sProp 𝕄 :=
  wp frame (wpE (defs₀ (F := F)) 𝒱₀ (tv d L) none) Set.univ p Q

theorem wp_ld {b : VBuf} {x : Row F} {off : Fin 1 → ℕ} {n : ℕ} (hn : off 0 = n) {h : ∀ a, off a + S16.size a ≤ S32768.size a}
    {hl} {α : Type} {k : V16 F → Pr F L α} {Q : α → sProp 𝕄} :
    pt d L b x ⊢ iprop((pt d L b x -∗ WP d L (k (sl x n)) Q)
      -∗ WP d L (Prog.lift (.load b (Rect.unit (s := S32768) off S16.size h).toLoadRect hl) >>= k) Q) := by
  subst hn
  unfold pt
  iintro ⟨%f, %hf, H⟩ HK
  have e : (b.access (Rect.unit (s := S32768) off S16.size h)).read (Elt F) f = sl x (off 0) := by
    funext l
    show b.view.read (Elt F) f ((Rect.unit (s := S32768) off S16.size h).emb l) = x (pos (off 0 + (l 0).val))
    rw [emb_unit, hf]
  iapply (wp_load_rect 𝒱₀ (tv d L) none Set.univ (m := b) (r := Rect.unit (s := S32768) off S16.size h) (View.set_slice_subset _ _)) $$ H
  iintro H
  rw [e]
  iapply HK
  iexists f
  isplitr
  · ipureintro; exact hf
  · iexact H

theorem wp_st {b : VBuf} {x : Row F} {off : Fin 1 → ℕ} {n : ℕ} (hn : off 0 = n) {h : ∀ a, off a + S16.size a ≤ S32768.size a}
    {v : V16 F} {hl hm} {α : Type} {k : PUnit → Pr F L α} {Q : α → sProp 𝕄} :
    pt d L b x ⊢ iprop((pt d L b (put x n v) -∗ WP d L (k ⟨⟩) Q)
      -∗ WP d L (Prog.lift (.store b (Rect.unit (s := S32768) off S16.size h) v Finset.univ hl hm) >>= k) Q) := by
  subst hn
  unfold pt
  iintro ⟨%f, %hf, H⟩ HK
  iapply (wp_store 𝒱₀ (tv d L) none Set.univ (m := b) (r := Rect.unit (s := S32768) off S16.size h) ((View.setOn_subset_set _ _).trans (View.set_slice_subset _ _))) $$ H
  iintro H
  iapply HK
  iexists _
  isplitr
  swap; · iexact H
  ipureintro
  subst hf
  funext p
  by_cases hp : off 0 ≤ (p 0).val ∧ (p 0).val < off 0 + 16
  · have e : p = (Rect.unit (s := S32768) off S16.size h).emb (lane ((p 0).val - off 0)) := by
      rw [emb_unit]
      funext a
      match a with
      | 0 =>
        apply Fin.ext
        have := (p 0).isLt
        have h2 : S32768.size 0 = 32768 := rfl
        show (p 0).val = (off 0 + ((p 0).val - off 0) % 16) % 32768
        omega
    unfold put
    rw [if_pos hp]
    conv_lhs => rw [e]
    exact View.read_slice_write_emb (h := Finset.mem_univ _) ..
  · unfold put
    rw [if_neg hp]
    refine View.read_slice_write_of_not_mem _ _ _ _ fun hm => hp ?_
    obtain ⟨l, -, rfl⟩ := Finset.mem_map.mp hm
    have := (l 0).isLt
    have h1 : S16.size 0 = 16 := rfl
    show off 0 ≤ off 0 + 1 * (l 0).val ∧ off 0 + 1 * (l 0).val < off 0 + 16
    have h3 : (l 0).val < 16 := this
    omega

theorem wp_si {b : VBuf} {x : Row F} {idx : IVec S16 32} {v : V16 F} {M : IVec S16 1}
    {h : ∀ a l, ((![idx] : Fin 1 → IVec S16 32) a l).toNat < S32768.size a}
    {hl} {α : Type} {k : PUnit → Pr F L α} {Q : α → sProp 𝕄} :
    pt d L b x ⊢ iprop((pt d L b (storeIdx x ![idx] v M false h) -∗ WP d L (k ⟨⟩) Q)
      -∗ WP d L (SparseCore.vectorStoreIdx b ![idx] v M false h hl >>= k) Q) := by
  unfold pt
  iintro ⟨%f, %hf, H⟩ HK
  have ew : ∀ l : S32768.Idx, (Rect.whole S32768).emb l = l := fun l => by
    funext a; apply Fin.ext; show 0 + 1 * (l a).val = (l a).val; omega
  have er : (b.access (.whole S32768)).read (Elt F) f = x := by
    funext l
    show b.view.read (Elt F) f ((Rect.whole S32768).emb l) = x l
    rw [ew, hf]
  have es : (b.access (.whole S32768)).set = b.view.set := by
    show (b.view.slice (Rect.whole S32768)).set = b.view.set
    rw [View.set_slice, Rect.set_whole]; rfl
  ihave H := (Entails.of_eq (show (b.view.loc (tv d L) ↦[b.view.set]{fullShare} f : sProp 𝕄)
    = ((b.access (.whole S32768)).loc (tv d L) ↦[(b.access (.whole S32768)).set]{fullShare} f) by rw [es])) $$ H
  iapply (SparseCore.wp_vectorStoreIdx 𝒱₀ (tv d L) none Set.univ (base := b)) $$ H
  iintro H
  ihave H := (Entails.of_eq (show ((b.access (.whole S32768)).loc (tv d L) ↦[(b.access (.whole S32768)).set]{fullShare}
      ((b.access (.whole S32768)).write (Elt F) f (storeIdx ((b.access (.whole S32768)).read (Elt F) f) ![idx] v M false h) Finset.univ) : sProp 𝕄)
    = (b.view.loc (tv d L) ↦[b.view.set]{fullShare}
      ((b.access (.whole S32768)).write (Elt F) f (storeIdx x ![idx] v M false h) Finset.univ)) by rw [es, er])) $$ H
  iapply HK
  iexists _
  isplitr
  swap; · iexact H
  ipureintro
  funext p
  have := View.read_slice_write_emb (v := b.view) (Rect.whole S32768) f (storeIdx x ![idx] v M false h) (x := p) (Finset.mem_univ p)
  rwa [ew] at this

theorem wp_as {P : Prop} {hd : Decidable P} (h : P) {α : Type} {k : PLift P → Pr F L α} {Q : α → sProp 𝕄} :
    WP d L (k ⟨h⟩) Q ⊢ WP d L (Prog.lift (.assume P hd) >>= k) Q :=
  wp_assume 𝒱₀ (tv d L) none Set.univ h

theorem wp_rt {α : Type} {x : α} {Q : α → sProp 𝕄} : Q x ⊢ WP d L (Prog.ret x : Pr F L α) Q := by
  iintro H
  unfold WP
  rw [wp_ret]
  imodintro
  iexact H

theorem wp_yes {C : Prop} {hd : Decidable C} (h : C) {α : Type} {A : C → Pr F L α} {B : ¬ C → Pr F L α} {Q : α → sProp 𝕄} :
    WP d L (A h) Q ⊢ WP d L (@dite _ C hd A B) Q := by rw [dif_pos h]

theorem wp_no {C : Prop} {hd : Decidable C} (h : ¬ C) {α : Type} {A : C → Pr F L α} {B : ¬ C → Pr F L α} {Q : α → sProp 𝕄} :
    WP d L (B h) Q ⊢ WP d L (@dite _ C hd A B) Q := by rw [dif_neg h]

theorem wp_bd {α β : Type} {p : Pr F L α} {k : α → Pr F L β} {Q : β → sProp 𝕄} :
    WP d L p (fun a => WP d L (k a) Q) ⊢ WP d L (p >>= k) Q :=
  Entails.of_eq (wp_bind _ _ _ _ _ _).symm

end Cert.Proof
-- ==== Proof.Dma.lean ====
/-
  The copies of a row between a buffer and an array's row: started, and waited for.
-/
module

public import proofs.«01_k».proof.Proof.Rules

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]
variable (d : Dev nD) (L : grid0.Coords)

/-- The transfers' counters. -/
abbrev EC : UEmb Counters 𝕄 := countersEmb
/-- The type of a row of 32768 elements in some memory. -/
abbrev RRef (sp : Space) : Type := Memref sig .scVector sp S32768 .f32

/-- The row held whole, reading `x`. -/
def pg {sp : Space} (r : RRef sp) (x : Row F) : sProp 𝕄 :=
  iprop(∃ f : Buf (Elt F) (r.view.loc (tv d L)), ⌜r.view.read (Elt F) f = x⌝ ∗ (r.view.loc (tv d L) ↦[r.view.set]{fullShare} f))

theorem pg_pt (b : VBuf) (x : Row F) : pg d L b x = pt d L b x := rfl

/-- The cell of a semaphore of the task. -/
abbrev cell (s : DmaSem sig) : GSem nD τ sig := (tv d L, .dma s)

/-- A copy of `x` from `src` to `dst` on its way, announced at `s`. -/
def Fl {sp sp' : Space} (s : DmaSem sig) (src : RRef sp) (dst : RRef sp') (x : Row F) : sProp 𝕄 :=
  iprop(∃ (fs : Buf (Elt F) (src.view.loc (tv d L))) (fd : Buf (Elt F) (dst.view.loc (tv d L))), ⌜src.view.read (Elt F) fs = x⌝ ∗
    Transfers.Flight EC (tv d L) (.dma s) none dst.view.dmaCredit
      iprop((dst.view.loc (tv d L) ↦[dst.view.set]{fullShare} View.write (Elt F) dst.view fd x Finset.univ)
        ∗ src.view.loc (tv d L) ↦[src.view.set]{fullShare} fs))

theorem wp_enq {sp sp' : Space} {src : RRef sp} {dst : RRef sp'} {s : DmaSem sig} {x y : Row F} {h1 h2 h3}
    {α : Type} {k : PUnit → Pr F L α} {Q : α → sProp 𝕄} :
    iprop(pg d L src x ∗ pg d L dst y ∗ semVal (cell d L s) 0)
      ⊢ iprop((Fl d L s src dst x -∗ WP d L (k ⟨⟩) Q)
        -∗ WP d L (Prog.lift (.enqueueDma src (.here dst) (.dma s) h1 h2 h3) >>= k) Q) := by
  unfold pg
  iintro ⟨⟨%f, %hf, H⟩, ⟨%g, %hg, G⟩, S⟩ HK
  iapply (Transfers.wp_dmaLocal EC 𝒱₀ (tv d L) none (none : HIx 1) dst.view.dmaCredit rfl (View.amount_pos _ (.dma s) (show 0 < S32768.numel by decide)) subset_rfl) $$ [H G S]
  · isplitl [H]
    · iexact H
    isplitl [G]
    · iexact G
    iexact S
  iintro HF
  iapply HK
  unfold Fl
  iexists f
  iexists g
  isplitr
  · ipureintro; exact hf
  subst hf
  iexact HF

theorem wp_wt {sp sp' sp1 sp2 : Space} {src : RRef sp} {dst : RRef sp'} {s : DmaSem sig} {x : Row F}
    {s' : Shape} {e' : EltTy} {srcw : Memref sig .scVector sp1 s' e'} {dstw : RRef sp2} {h1 h2} (hN : dstw.view.dmaCredit = dst.view.dmaCredit)
    {O : CellTallies nD τ sig (HIx 1)} {W : Waits sig (HIx 1)}
    {α : Type} {k : PUnit → Pr F L α} {Q : α → sProp 𝕄} :
    iprop(Fl d L s src dst x ∗ owes (tv d L) O W ∗ Transfers.MayWaits (tv d L) none O)
      ⊢ iprop((iprop(pg d L src x ∗ pg d L dst x ∗ semVal (cell d L s) 0 ∗ owes (tv d L) O (insert (SemLoc.dma s, none) W)) -∗ WP d L (k ⟨⟩) Q)
        -∗ WP d L (Prog.lift (.waitDma2 s srcw dstw h1 h2) >>= k) Q) := by
  unfold Fl
  iintro ⟨⟨%f, %g, %hf, HF⟩, HO, HM⟩ HK
  iapply (Transfers.wp_waitLocalO EC 𝒱₀ (tv d L) none (none : HIx 1) hN) $$ [HF HO HM]
  · isplitl [HF]
    · iexact HF
    isplitl [HO]
    · iexact HO
    iapply (Transfers.MayWaits.elim (SemLoc.dma s))
    iexact HM
  iintro ⟨⟨G, H⟩, S, HO⟩
  iapply HK
  unfold pg
  isplitl [H]
  · iexists f
    isplitr
    · ipureintro; exact hf
    iexact H
  isplitl [G]
  · iexists _
    isplitr
    swap
    · iexact G
    ipureintro
    exact View.read_write_univ _ _
  isplitl [S]
  · iexact S
  iexact HO

/-- A row fetched into a buffer: started; -/
theorem wp_in {sp : Space} {src : RRef sp} {dst : VBuf} {s : DmaSem sig} {x y : Row F} {h1 h2 h3}
    {α : Type} {k : PUnit → Pr F L α} {Q : α → sProp 𝕄} :
    iprop(pg d L src x ∗ pt d L dst y ∗ semVal (cell d L s) 0)
      ⊢ iprop((Fl d L s src dst x -∗ WP d L (k ⟨⟩) Q)
        -∗ WP d L (Prog.lift (.enqueueDma src (.here dst) (.dma s) h1 h2 h3) >>= k) Q) := wp_enq d L

/-- and waited for. -/
theorem wp_inw {sp sp1 sp2 : Space} {src : RRef sp} {dst : VBuf} {s : DmaSem sig} {x : Row F}
    {s' : Shape} {e' : EltTy} {srcw : Memref sig .scVector sp1 s' e'} {dstw : RRef sp2} {h1 h2} (hN : dstw.view.dmaCredit = dst.view.dmaCredit)
    {O : CellTallies nD τ sig (HIx 1)} {W : Waits sig (HIx 1)}
    {α : Type} {k : PUnit → Pr F L α} {Q : α → sProp 𝕄} :
    iprop(Fl d L s src dst x ∗ owes (tv d L) O W ∗ Transfers.MayWaits (tv d L) none O)
      ⊢ iprop((iprop(pg d L src x ∗ pt d L dst x ∗ semVal (cell d L s) 0 ∗ owes (tv d L) O (insert (SemLoc.dma s, none) W)) -∗ WP d L (k ⟨⟩) Q)
        -∗ WP d L (Prog.lift (.waitDma2 s srcw dstw h1 h2) >>= k) Q) := wp_wt d L hN

/-- A buffer written back to a row: started; -/
theorem wp_back {sp : Space} {src : VBuf} {dst : RRef sp} {s : DmaSem sig} {x y : Row F} {h1 h2 h3}
    {α : Type} {k : PUnit → Pr F L α} {Q : α → sProp 𝕄} :
    iprop(pt d L src x ∗ pg d L dst y ∗ semVal (cell d L s) 0)
      ⊢ iprop((Fl d L s src dst x -∗ WP d L (k ⟨⟩) Q)
        -∗ WP d L (Prog.lift (.enqueueDma src (.here dst) (.dma s) h1 h2 h3) >>= k) Q) := wp_enq d L

/-- and waited for. -/
theorem wp_backw {sp sp1 sp2 : Space} {src : VBuf} {dst : RRef sp} {s : DmaSem sig} {x : Row F}
    {s' : Shape} {e' : EltTy} {srcw : Memref sig .scVector sp1 s' e'} {dstw : RRef sp2} {h1 h2} (hN : dstw.view.dmaCredit = dst.view.dmaCredit)
    {O : CellTallies nD τ sig (HIx 1)} {W : Waits sig (HIx 1)}
    {α : Type} {k : PUnit → Pr F L α} {Q : α → sProp 𝕄} :
    iprop(Fl d L s src dst x ∗ owes (tv d L) O W ∗ Transfers.MayWaits (tv d L) none O)
      ⊢ iprop((iprop(pt d L src x ∗ pg d L dst x ∗ semVal (cell d L s) 0 ∗ owes (tv d L) O (insert (SemLoc.dma s, none) W)) -∗ WP d L (k ⟨⟩) Q)
        -∗ WP d L (Prog.lift (.waitDma2 s srcw dstw h1 h2) >>= k) Q) := wp_wt d L hN

end Cert.Proof
-- ==== Proof.Words.lean ====
/-
  The integer side of the model: the largest counter, the counters' bounds, the scatter's indices, the loops'
  trip counts and offsets.
-/
module

public import proofs.«01_k».proof.Proof.Model

@[expose] public section

noncomputable section

namespace Cert.Proof

open Cert.KernelIdeal Cert.KernelIdeal.Gen
open Idealize.ShloMosaic Idealize.SL.Sem

variable {F : FTy → Type}

theorem lane_self (l : S16.Idx) : lane (l 0).val = l := by
  funext a
  match a with
  | 0 => exact Fin.ext (Nat.mod_eq_of_lt (l 0).isLt)
theorem lane_val (n : ℕ) (h : n < 16) : (lane n 0).val = n := Nat.mod_eq_of_lt h
theorem lane_lt (l : S16.Idx) : (l 0).val < 16 := (l 0).isLt
theorem pos_self (p : S32768.Idx) : pos (p 0).val = p := by
  funext a
  match a with
  | 0 => exact Fin.ext (Nat.mod_eq_of_lt (p 0).isLt)
theorem pos_val (n : ℕ) (h : n < 32768) : (pos n 0).val = n := Nat.mod_eq_of_lt h
theorem pos_lt (p : S32768.Idx) : (p 0).val < 32768 := (p 0).isLt
theorem ofLane_eq (k : Fin (![16] 0)) : (Shape.ofLane k : S16.Idx) = lane k.val := by
  funext a
  match a with
  | 0 => exact Fin.ext (Nat.mod_eq_of_lt k.isLt).symm

/-! ## The largest of sixteen words -/

theorem xor_top (x : BitVec 32) (h : x.toNat < 2 ^ 31) : (x ^^^ 2147483648#32).toNat = 2 ^ 31 + x.toNat := by
  rw [BitVec.toNat_xor, show (2147483648#32).toNat = 2 ^ 31 from rfl]
  refine Nat.eq_of_testBit_eq fun i => ?_
  rw [Nat.testBit_xor, Nat.testBit_two_pow]
  rcases lt_trichotomy i 31 with hi | hi | hi
  · rw [Nat.testBit_two_pow_add_gt hi, decide_eq_false (by omega : ¬ (31 = i)), Bool.xor_false]
  · subst hi; rw [Nat.testBit_two_pow_add_eq]; simp
  · have a : x.toNat.testBit i = false := Nat.testBit_lt_two_pow (lt_of_lt_of_le h (Nat.pow_le_pow_right (by decide) hi.le))
    have b : (2 ^ 31 + x.toNat).testBit i = false :=
      Nat.testBit_lt_two_pow (lt_of_lt_of_le (show 2 ^ 31 + x.toNat < 2 ^ 32 by omega) (Nat.pow_le_pow_right (by decide) hi))
    rw [a, b, decide_eq_false (by omega : ¬ (31 = i))]; rfl

theorem foldl_max {ι : Type} (v : ι → BitVec 32) : ∀ (ks : List ι) (r : BitVec 32),
    ((ks.foldl (fun r k => ScanKind.step .max r (v k)) r) = r ∨ ∃ k ∈ ks, (ks.foldl (fun r k => ScanKind.step .max r (v k)) r) = v k)
    ∧ r.toNat ≤ (ks.foldl (fun r k => ScanKind.step .max r (v k)) r).toNat
    ∧ ∀ k ∈ ks, (v k).toNat ≤ (ks.foldl (fun r k => ScanKind.step .max r (v k)) r).toNat
  | [], r => ⟨.inl rfl, le_rfl, by simp⟩
  | k :: ks, r => by
    obtain ⟨h1, h2, h3⟩ := foldl_max v ks (ScanKind.step .max r (v k))
    have hs : (ScanKind.step .max r (v k) = r ∧ (v k).toNat ≤ r.toNat) ∨ (ScanKind.step .max r (v k) = v k ∧ r.toNat ≤ (v k).toNat) := by
      show (IntOp.maxui r (v k) = r ∧ _) ∨ (IntOp.maxui r (v k) = v k ∧ _)
      unfold IntOp.maxui
      by_cases h : (v k).ult r = true
      · rw [if_pos h]; left; exact ⟨rfl, by have := BitVec.ult_iff_lt.mp h; exact le_of_lt (BitVec.lt_def.mp this)⟩
      · rw [if_neg h]; right
        refine ⟨rfl, ?_⟩
        by_contra hc
        exact h (BitVec.ult_iff_lt.mpr (BitVec.lt_def.mpr (not_le.mp hc)))
    refine ⟨?_, ?_, ?_⟩
    · rcases h1 with h1 | ⟨j, hj, h1⟩
      · rcases hs with ⟨e, -⟩ | ⟨e, -⟩
        · left; simp only [List.foldl_cons]; rw [h1, e]
        · right; exact ⟨k, List.mem_cons_self, by simp only [List.foldl_cons]; rw [h1, e]⟩
      · right; exact ⟨j, List.mem_cons_of_mem _ hj, by simp only [List.foldl_cons]; exact h1⟩
    · simp only [List.foldl_cons]
      rcases hs with ⟨e, hh⟩ | ⟨e, hh⟩ <;> rw [e] at h2 ⊢ <;> omega
    · intro j hj
      simp only [List.foldl_cons]
      rcases List.mem_cons.mp hj with rfl | hj
      · rcases hs with ⟨e, hh⟩ | ⟨e, hh⟩ <;> rw [e] at h2 ⊢ <;> omega
      · exact h3 j hj

/-- The largest of sixteen nonnegative words is one of them and no other is larger. -/
theorem maxw_spec (c : IVec S16 32) (hc : ∀ l, (c l).toNat < 2 ^ 31) :
    ∃ k : S16.Idx, maxw c = c k ∧ ∀ l : S16.Idx, (c l).toNat ≤ (c k).toNat := by
  have key : ∃ k : S16.Idx, (scan (d := ![16]) .max (xori c (broadcast S16 2147483648#32))) (fun a => ⟨(![15] : Fin 1 → ℕ) a, inpos_S16_p15 a⟩)
      = c k ^^^ 2147483648#32 ∧ ∀ l : S16.Idx, (c l ^^^ 2147483648#32).toNat ≤ (c k ^^^ 2147483648#32).toNat := by
    have H := foldl_max (fun k : Fin (![16] 0) => (xori c (broadcast S16 2147483648#32)) (Shape.ofLane k))
      ((List.finRange (![16] 0)).filter fun k => decide (0 < k.val ∧ k.val ≤ 15)) ((xori c (broadcast S16 2147483648#32)) (Shape.ofLane ⟨0, by decide⟩))
    obtain ⟨h1, h2, h3⟩ := H
    have hall : ∀ l : S16.Idx, (c l ^^^ 2147483648#32).toNat ≤ ((scan (d := ![16]) .max (xori c (broadcast S16 2147483648#32)))
        (fun a => ⟨(![15] : Fin 1 → ℕ) a, inpos_S16_p15 a⟩)).toNat := by
      intro l
      by_cases h0 : (l 0).val = 0
      · have e : l = Shape.ofLane ⟨0, by decide⟩ := by
          rw [← lane_self l, h0]; exact (ofLane_eq ⟨0, by decide⟩).symm
        rw [e]; exact h2
      · have e : l = Shape.ofLane (l 0) := by
          rw [ofLane_eq]; exact (lane_self l).symm
        have := h3 (l 0) (List.mem_filter.mpr ⟨List.mem_finRange _, decide_eq_true ⟨by omega, by have := lane_lt l; omega⟩⟩)
        rw [← e] at this
        exact this
    rcases h1 with h1 | ⟨k, -, h1⟩
    · refine ⟨Shape.ofLane ⟨0, by decide⟩, h1, fun l => ?_⟩
      have := hall l
      rwa [show (scan (d := ![16]) .max (xori c (broadcast S16 2147483648#32))) (fun a => ⟨(![15] : Fin 1 → ℕ) a, inpos_S16_p15 a⟩) = _ from h1] at this
    · refine ⟨Shape.ofLane k, h1, fun l => ?_⟩
      have := hall l
      rwa [show (scan (d := ![16]) .max (xori c (broadcast S16 2147483648#32))) (fun a => ⟨(![15] : Fin 1 → ℕ) a, inpos_S16_p15 a⟩) = _ from h1] at this
  obtain ⟨k, hk, hl⟩ := key
  refine ⟨k, ?_, fun l => ?_⟩
  · have : maxw c = (scan (d := ![16]) .max (xori c (broadcast S16 2147483648#32))) (fun a => ⟨(![15] : Fin 1 → ℕ) a, inpos_S16_p15 a⟩) ^^^ 2147483648#32 := rfl
    rw [this, hk, BitVec.xor_assoc, BitVec.xor_self, BitVec.xor_zero]
  · have := hl l
    rw [xor_top _ (hc l), xor_top _ (hc k)] at this
    omega

/-! ## The counters -/

section Ops
variable [FloatOps F]

/-- A mask bit as a number. -/
def bit (b : BitVec 1) : ℕ := if b = 1#1 then 1 else 0

theorem bit_le (b : BitVec 1) : bit b ≤ 1 := by unfold bit; split <;> omega

theorem extui_toNat (b : BitVec 1) : (b.setWidth 32).toNat = bit b := by
  revert b; decide

theorem cstep_toNat (x : Row F) (c : V16 F) (o : ℕ) (cnt : IVec S16 32) (l : S16.Idx) (h : (cnt l).toNat < 2 ^ 31) :
    (cstep x c o cnt l).toNat = (cnt l).toNat + bit (msk x c o l) := by
  show (cnt l + (msk x c o l).setWidth 32).toNat = _
  rw [BitVec.toNat_add, extui_toNat]
  have := bit_le (msk x c o l)
  omega

theorem cnts_toNat (x : Row F) (c : V16 F) (t : ℕ) (cnt : IVec S16 32) (l : S16.Idx) (h : (cnt l).toNat < 2 ^ 30) :
    ∀ u, u ≤ 8 → (cnts x c t cnt u l).toNat = (cnt l).toNat + ∑ j ∈ Finset.range u, bit (msk x c (128 * t + 16 * j) l)
      ∧ (cnts x c t cnt u l).toNat ≤ (cnt l).toNat + u
  | 0, _ => ⟨by simp [cnts, iter], by simp [cnts, iter]⟩
  | u + 1, hu => by
    obtain ⟨h1, h2⟩ := cnts_toNat x c t cnt l h u (by omega)
    have e : (cnts x c t cnt (u + 1) l).toNat = (cnts x c t cnt u l).toNat + bit (msk x c (128 * t + 16 * u) l) :=
      cstep_toNat x c _ (cnts x c t cnt u) l (by omega)
    have := bit_le (msk x c (128 * t + 16 * u) l)
    refine ⟨?_, by omega⟩
    rw [Finset.sum_range_succ, e, h1]; omega

theorem comp_le (x : Row F) (c : V16 F) (g : Row F) (l : S16.Idx) : ∀ n, n ≤ 256 → ((comp x c g n).1 l).toNat ≤ 8 * n
  | 0, _ => by show (0#32).toNat ≤ _; simp
  | n + 1, hn => by
    have h := comp_le x c g l n (by omega)
    have := (cnts_toNat x c n (comp x c g n).1 l (by omega) 8 le_rfl).2
    show (cnts x c n (comp x c g n).1 8 l).toNat ≤ _
    omega

/-- The printed scatter index of a lane. -/
theorem idx_toNat (cnt : IVec S16 32) (l : S16.Idx) (h : (cnt l).toNat < 2048) :
    ((addi (muli cnt (broadcast S16 16#32)) lanes : IVec S16 32) l).toNat = 16 * (cnt l).toNat + (l 0).val := by
  have hl := lane_lt l
  show (cnt l * 16#32 + BitVec.ofNat 32 (0 * 16 + (l 0).val)).toNat = _
  rw [BitVec.toNat_add, BitVec.toNat_mul, BitVec.toNat_ofNat, BitVec.toNat_ofNat]
  omega

theorem idx_inb (cnt : IVec S16 32) (h : ∀ l, (cnt l).toNat < 2048) :
    ∀ a l, ((![(addi (muli cnt (broadcast S16 16#32)) lanes : IVec S16 32)] : Fin 1 → IVec S16 32) a l).toNat < S32768.size a := by
  intro a l
  match a with
  | 0 =>
    show ((addi (muli cnt (broadcast S16 16#32)) lanes : IVec S16 32) l).toNat < 32768
    rw [idx_toNat cnt l (h l)]
    have := h l; have := lane_lt l
    omega

theorem cnts_lt (x : Row F) (c : V16 F) (g : Row F) (t u : ℕ) (ht : t < 256) (hu : u < 8) (l : S16.Idx) :
    (cnts x c t (comp x c g t).1 u l).toNat < 2048 := by
  have h := comp_le x c g l t ht.le
  have := (cnts_toNat x c t (comp x c g t).1 l (by omega) u hu.le).2
  omega

theorem maxn_le (neg : F .f32) (x g : Row F) : (maxn neg x g).toNat ≤ 2048 := by
  obtain ⟨k, hk, -⟩ := maxw_spec (comp x (cut neg x) g 256).1 (fun l => by have := comp_le x (cut neg x) g l 256 le_rfl; omega)
  show (maxw _).toNat ≤ _
  rw [hk]
  have := comp_le x (cut neg x) g k 256 le_rfl
  omega

end Ops

/-! ## The loops over the candidates -/

theorem sdiv_one (v : BitVec 32) : Scalar.divsi v 1#32 = v := by
  show (if IntOp.SDivCorner v 1#32 then _ else v.sdiv 1#32) = v
  rw [if_neg (by unfold IntOp.SDivCorner; simp), BitVec.sdiv_one]

theorem t3_eq (v : BitVec 32) : k0_t3_loop v = ⟨0#32, v, 1#32⟩ := by
  have e : Scalar.addi 0#32 (Scalar.muli (Scalar.divsi (Scalar.subi v 0#32) 1#32) 1#32) = v := by
    rw [sdiv_one]; show 0#32 + (v - 0#32) * 1#32 = v; simp
  show Scf.Loop.mk 0#32 (Scalar.addi 0#32 (Scalar.muli (Scalar.divsi (Scalar.subi v 0#32) 1#32) 1#32)) 1#32 = _
  rw [e]
theorem t4_eq (v : BitVec 32) : k0_t4_loop v = ⟨v, v, 1#32⟩ := by
  have e : Scalar.addi 0#32 (Scalar.muli (Scalar.divsi (Scalar.subi v 0#32) 1#32) 1#32) = v := by
    rw [sdiv_one]; show 0#32 + (v - 0#32) * 1#32 = v; simp
  have e' : Scalar.addi 0#32 (Scalar.subi v 0#32) = v := by show 0#32 + (v - 0#32) = v; simp
  show Scf.Loop.mk (Scalar.addi 0#32 (Scalar.muli (Scalar.divsi (Scalar.subi v 0#32) 1#32) 1#32)) (Scalar.addi 0#32 (Scalar.subi v 0#32)) 1#32 = _
  rw [e, e']

theorem toInt_small (v : BitVec 32) (h : v.toNat ≤ 2048) : v.toInt = v.toNat := by
  rw [BitVec.toInt_eq_toNat_of_lt (by omega)]

theorem t3_trips (v : BitVec 32) (h : v.toNat ≤ 2048) : (k0_t3_loop v).trips = v.toNat := by
  show Scf.trips _ _ _ = _
  rw [t3_eq]
  unfold Scf.trips
  rw [toInt_small v h]
  show (((v.toNat : ℤ) - 0 + 1 - 1) / 1).toNat = _
  simp
theorem t4_trips (v : BitVec 32) (h : v.toNat ≤ 2048) : (k0_t4_loop v).trips = 0 := by
  show Scf.trips _ _ _ = _
  rw [t4_eq]
  unfold Scf.trips
  rw [toInt_small v h]
  show (((v.toNat : ℤ) - v.toNat + 1 - 1) / 1).toNat = _
  simp
theorem off5_eq (v : BitVec 32) (h : v.toNat ≤ 2048) (t : Fin (k0_t3_loop v).trips) : k0_off5 v t 0 = 16 * t.val := by
  have ht : t.val < v.toNat := lt_of_lt_of_eq t.isLt (t3_trips v h)
  show ((0#32 + BitVec.ofNat 32 t.val * 1#32) * 16#32).toNat = _
  simp only [BitVec.toNat_mul, BitVec.toNat_add, BitVec.toNat_ofNat]
  omega
theorem iv_eq (k : ℕ) : Scf.iv 0#32 1#32 k = BitVec.ofNat 32 k := by
  show 0#32 + BitVec.ofNat 32 k * 1#32 = _
  simp

theorem chk9 (v : BitVec 32) (h : v.toNat ≤ 2048) : k0_chk9 v := by
  have o3 : (k0_t3_loop v).OK := by
    refine ⟨show 0 < (1#32).toInt by decide, ?_⟩
    have e : Scf.trips (k0_t3_loop v).lb (k0_t3_loop v).ub (k0_t3_loop v).st = v.toNat := t3_trips v h
    rw [e, t3_eq]
    show (0 : ℤ) + v.toNat * 1 < 2 ^ 31
    omega
  have o4 : (k0_t4_loop v).OK := by
    refine ⟨show 0 < (1#32).toInt by decide, ?_⟩
    have e : Scf.trips (k0_t4_loop v).lb (k0_t4_loop v).ub (k0_t4_loop v).st = 0 := t4_trips v h
    rw [e, t4_eq]
    show v.toInt + (0 : ℕ) * 1 < 2 ^ 31
    rw [toInt_small v h]
    omega
  have f5 : ∀ t : Fin (k0_t3_loop v).trips, ∀ a, k0_off5 v t a + S16.size a ≤ S32768.size a := by
    intro t a
    have ht : t.val < v.toNat := lt_of_lt_of_eq t.isLt (t3_trips v h)
    match a with
    | 0 => rw [off5_eq v h]; show 16 * t.val + 16 ≤ 32768; omega
  have f6 : ∀ t : Fin (k0_t4_loop v).trips, ∀ a, k0_off6 v t a + S16.size a ≤ S32768.size a := by
    intro t
    exact absurd (lt_of_lt_of_eq t.isLt (t4_trips v h)) (Nat.not_lt_zero _)
  exact ⟨o3, f5, o4, f6, o3, f5, o4, f6, o3, f5, o4, f6⟩

end Cert.Proof
-- ==== Proof.Loops.lean ====
/-
  The loops of the printed body, each run from what its buffers read to what the model's loop leaves.
-/
module

public import proofs.«01_k».proof.Proof.Rules
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]
variable (d : Dev nD) (L : grid0.Coords)

/-- A counted loop whose trip `t` takes `iter f init t` and `R t` to `iter f init (t + 1)` and `R (t + 1)`. -/
theorem wp_loop {σ : Type} {lp : Scf.Loop 32} {ok : lp.OK} {init : σ} {body : Fin lp.trips → σ → Pr F L σ} (f : ℕ → σ → σ) (R : ℕ → sProp 𝕄)
    (n : ℕ) (hn : lp.trips = n)
    (hb : ∀ t : Fin lp.trips, R t.val ⊢ WP d L (body t (iter f init t.val)) fun r => iprop(⌜r = iter f init (t.val + 1)⌝ ∗ R (t.val + 1)))
    {β : Type} {kk : σ → Pr F L β} {Q : β → sProp 𝕄} :
    R 0 ⊢ iprop((R n -∗ WP d L (kk (iter f init n)) Q) -∗ WP d L (Scf.Loop.for lp ok init body >>= kk) Q) := by
  subst hn
  iintro HR HK
  iapply (Scf.wp_for_bind frame (wpE (defs₀ (F := F)) 𝒱₀ (tv d L) none) Set.univ lp.lb lp.ub lp.st ok init body
    (fun t acc => iprop(⌜acc = iter f init t⌝ ∗ R t)) (by
      intro t acc
      iintro ⟨%h, H⟩
      subst h
      iapply (hb t)
      iexact H)) $$ [HR]
  · isplitr
    · ipureintro; rfl
    · iexact HR
  iintro %acc ⟨%h, H⟩
  subst h
  iapply HK
  iexact H

variable {d L}
variable (a2 : Memref sig .scVector .hbm S128x32768 .f32) (h2 : a2.IsWhole) (a3 : Memref sig .scVector .hbm S128x32768 .f32) (h3 : a3.IsWhole)
  (b : VBuf) (hb : b.IsWhole) (b' : VBuf) (hb' : b'.IsWhole) (cb : VBuf) (hcb : cb.IsWhole)
variable (s7 s8 s9 s10 : DmaSems sig S_)

variable (L) in
/-- A trip of the maximum loop. -/
abbrev maxBody (t : Fin k0_t1_loop.trips) (acc : V16 F) : Pr F L (V16 F) := do
  let v ← k0_part1 L a2 h2 a3 h3 b hb b' hb' cb hcb s7 s8 s9 s10 0#32 1#32 t
  pure (maximumf acc v)

theorem off3_eq (t : Fin k0_t1_loop.trips) (u : ℕ) (hu : u < 8) : k0_off3 t (BitVec.ofNat 32 u) 0 = 128 * t.val + 16 * u := by
  have h : ∀ (t : Fin k0_t1_loop.trips) (u : Fin 8), k0_off3 t (BitVec.ofNat 32 u.val) 0 = 128 * t.val + 16 * u.val := by decide +kernel
  exact h t ⟨u, hu⟩
theorem off4_eq (t : Fin k0_t2_loop.trips) (u : ℕ) (hu : u < 8) : k0_off4 t (BitVec.ofNat 32 u) 0 = 128 * t.val + 16 * u := off3_eq t u hu
theorem off11_eq (t : Fin k0_t10_loop.trips) (u : ℕ) (hu : u < 8) : k0_off11 t (BitVec.ofNat 32 u) 0 = 128 * t.val + 16 * u := off3_eq t u hu
theorem t1_trips : k0_t1_loop.trips = 256 := by decide

theorem wp_max {x : Row F} {init : V16 F} {β : Type} {kk : V16 F → Pr F L β} {Q : β → sProp 𝕄} :
    pt d L b x ⊢ iprop((pt d L b x -∗ WP d L (kk (iter (maxStep x) init 256)) Q)
      -∗ WP d L (Scf.Loop.for k0_t1_loop k0_t1_ok init (maxBody L a2 h2 a3 h3 b hb b' hb' cb hcb s7 s8 s9 s10) >>= kk) Q) := by
  refine wp_loop d L (maxStep x) (fun _ => pt d L b x) 256 t1_trips fun t => ?_
  iintro H
  unfold maxBody k0_part1
  iapply (wp_ld d L (off3_eq t 0 (by decide))) $$ H; iintro H
  iapply (wp_ld d L (off3_eq t 1 (by decide))) $$ H; iintro H
  iapply (wp_ld d L (off3_eq t 2 (by decide))) $$ H; iintro H
  iapply (wp_ld d L (off3_eq t 3 (by decide))) $$ H; iintro H
  iapply (wp_ld d L (off3_eq t 4 (by decide))) $$ H; iintro H
  iapply (wp_ld d L (off3_eq t 5 (by decide))) $$ H; iintro H
  iapply (wp_ld d L (off3_eq t 6 (by decide))) $$ H; iintro H
  iapply (wp_ld d L (off3_eq t 7 (by decide))) $$ H; iintro H
  iapply (wp_rt d L)
  isplitr
  · ipureintro; rfl
  · iexact H

variable (L) in
/-- A trip of the compaction. -/
abbrev compBody (v69 : V16 F) (t : Fin k0_t2_loop.trips) (acc : IVec S16 32) : Pr F L (IVec S16 32) := do
  let ⟨v786, v790, v791, v793, v797, v798, v800, v804, v805, v807, v811, v812, v814, v818, v819, v821, v825, v826, v828, c6_i32⟩ : Σ' (v786 : BitVec 32) (v790 : Vec F S16 .f32) (v791 : IVec S16 1) (v793 : IVec S16 32) (v797 : Vec F S16 .f32) (v798 : IVec S16 1) (v800 : IVec S16 32) (v804 : Vec F S16 .f32) (v805 : IVec S16 1) (v807 : IVec S16 32) (v811 : Vec F S16 .f32) (v812 : IVec S16 1) (v814 : IVec S16 32) (v818 : Vec F S16 .f32) (v819 : IVec S16 1) (v821 : IVec S16 32) (v825 : Vec F S16 .f32) (v826 : IVec S16 1) (v828 : IVec S16 32), BitVec 32 ← k0_part2 L a2 h2 a3 h3 b hb b' hb' cb hcb s7 s8 s9 s10 v69 0#32 1#32 t acc
  let v829 : BitVec 32 := Scalar.addi v786 c6_i32
  let c16_i32_173 : BitVec 32 := 16#32
  let v830 : BitVec 32 := Scalar.muli v829 c16_i32_173
  let v831 : Index := Scalar.indexCast v830
  let v832 : Vec F S16 .f32 ← Prog.lift (.load b (Rect.unit (s := S32768) (k0_off4 t 6#32) S16.size (k0_off4_inb t 6)).toLoadRect (View.loadsAt_vmem h_S16))
  have v833 : IVec S16 1 := cmpf .ogt v832 v69
  have v834 : IVec S16 32 := extui 32 v833 natLt_1_32
  have v835 : IVec S16 32 := addi v828 v834
  let c7_i32 : BitVec 32 := 7#32
  let v836 : BitVec 32 := Scalar.addi v786 c7_i32
  let c16_i32_174 : BitVec 32 := 16#32
  let v837 : BitVec 32 := Scalar.muli v836 c16_i32_174
  let v838 : Index := Scalar.indexCast v837
  let v839 : Vec F S16 .f32 ← Prog.lift (.load b (Rect.unit (s := S32768) (k0_off4 t 7#32) S16.size (k0_off4_inb t 7)).toLoadRect (View.loadsAt_vmem h_S16))
  have v840 : IVec S16 1 := cmpf .ogt v839 v69
  have v841 : IVec S16 32 := extui 32 v840 natLt_1_32
  have v842 : IVec S16 32 := addi v835 v841
  have v843 : IVec S16 1 := ori v791 v798
  have v844 : IVec S16 1 := ori v843 v805
  have v845 : IVec S16 1 := ori v844 v812
  have v846 : IVec S16 1 := ori v845 v819
  have v847 : IVec S16 1 := ori v846 v826
  have v848 : IVec S16 1 := ori v847 v833
  have v849 : IVec S16 1 := ori v848 v840
  have v850 : IVec S16 32 := extui 32 v849 natLt_1_32
  let true_175 : BitVec 1 := 1#1
  have v851 : IVec S16 1 := broadcast S16 true_175
  let c_m2147483648_i32_176 : BitVec 32 := 2147483648#32
  have v852 : IVec S16 32 := broadcast S16 c_m2147483648_i32_176
  have v853 : IVec S16 32 := xori v850 v852
  have v854 : IVec S16 32 := scan .max v853
  have v855 : IVec S16 32 := xori v854 v852
  let v856 : BitVec 32 := extractAt ![15] v855 inpos_S16_p15
  let c0_i32_177 : BitVec 32 := 0#32
  let v857 : BitVec 1 := Scalar.cmpi .sgt v856 c0_i32_177
  let v858 : BitVec 32 := Scalar.extui v857
  let c0_i32_178 : BitVec 32 := 0#32
  let v859 : BitVec 1 := Scalar.cmpi .ne v858 c0_i32_178
  if k0_h1 : k0_cond1 v856 = 1#1 then do
    let c16_i32_179 : BitVec 32 := 16#32
    have v860 : IVec S16 32 := broadcast S16 c16_i32_179
    have v861 : IVec S16 32 := muli acc v860
    have v862 : IVec S16 32 := addi v861 lanes
    have k0_hw1 : k0_chk1 v856 v862 := (← Prog.lift (TpuEff.assume (k0_chk1 v856 v862) (k0_chk1.dec v856 v862))).down
    SparseCore.vectorStoreIdx cb ![v862] v790 v791 false (k0_idx1_inb v856 v862 k0_hw1 k0_h1) (View.stores_vmem_bits_univ h_S32768 rfl)
    let c16_i32_180 : BitVec 32 := 16#32
    have v863 : IVec S16 32 := broadcast S16 c16_i32_180
    have v864 : IVec S16 32 := muli v793 v863
    have v865 : IVec S16 32 := addi v864 lanes
    have k0_hw2 : k0_chk2 v856 v865 := (← Prog.lift (TpuEff.assume (k0_chk2 v856 v865) (k0_chk2.dec v856 v865))).down
    SparseCore.vectorStoreIdx cb ![v865] v797 v798 false (k0_idx2_inb v856 v865 k0_hw2 k0_h1) (View.stores_vmem_bits_univ h_S32768 rfl)
    let c16_i32_181 : BitVec 32 := 16#32
    have v866 : IVec S16 32 := broadcast S16 c16_i32_181
    have v867 : IVec S16 32 := muli v800 v866
    have v868 : IVec S16 32 := addi v867 lanes
    have k0_hw3 : k0_chk3 v856 v868 := (← Prog.lift (TpuEff.assume (k0_chk3 v856 v868) (k0_chk3.dec v856 v868))).down
    SparseCore.vectorStoreIdx cb ![v868] v804 v805 false (k0_idx3_inb v856 v868 k0_hw3 k0_h1) (View.stores_vmem_bits_univ h_S32768 rfl)
    let c16_i32_182 : BitVec 32 := 16#32
    have v869 : IVec S16 32 := broadcast S16 c16_i32_182
    have v870 : IVec S16 32 := muli v807 v869
    have v871 : IVec S16 32 := addi v870 lanes
    have k0_hw4 : k0_chk4 v856 v871 := (← Prog.lift (TpuEff.assume (k0_chk4 v856 v871) (k0_chk4.dec v856 v871))).down
    SparseCore.vectorStoreIdx cb ![v871] v811 v812 false (k0_idx4_inb v856 v871 k0_hw4 k0_h1) (View.stores_vmem_bits_univ h_S32768 rfl)
    let c16_i32_183 : BitVec 32 := 16#32
    have v872 : IVec S16 32 := broadcast S16 c16_i32_183
    have v873 : IVec S16 32 := muli v814 v872
    have v874 : IVec S16 32 := addi v873 lanes
    have k0_hw5 : k0_chk5 v856 v874 := (← Prog.lift (TpuEff.assume (k0_chk5 v856 v874) (k0_chk5.dec v856 v874))).down
    SparseCore.vectorStoreIdx cb ![v874] v818 v819 false (k0_idx5_inb v856 v874 k0_hw5 k0_h1) (View.stores_vmem_bits_univ h_S32768 rfl)
    let c16_i32_184 : BitVec 32 := 16#32
    have v875 : IVec S16 32 := broadcast S16 c16_i32_184
    have v876 : IVec S16 32 := muli v821 v875
    have v877 : IVec S16 32 := addi v876 lanes
    have k0_hw6 : k0_chk6 v856 v877 := (← Prog.lift (TpuEff.assume (k0_chk6 v856 v877) (k0_chk6.dec v856 v877))).down
    SparseCore.vectorStoreIdx cb ![v877] v825 v826 false (k0_idx6_inb v856 v877 k0_hw6 k0_h1) (View.stores_vmem_bits_univ h_S32768 rfl)
    let c16_i32_185 : BitVec 32 := 16#32
    have v878 : IVec S16 32 := broadcast S16 c16_i32_185
    have v879 : IVec S16 32 := muli v828 v878
    have v880 : IVec S16 32 := addi v879 lanes
    have k0_hw7 : k0_chk7 v856 v880 := (← Prog.lift (TpuEff.assume (k0_chk7 v856 v880) (k0_chk7.dec v856 v880))).down
    SparseCore.vectorStoreIdx cb ![v880] v832 v833 false (k0_idx7_inb v856 v880 k0_hw7 k0_h1) (View.stores_vmem_bits_univ h_S32768 rfl)
    let c16_i32_186 : BitVec 32 := 16#32
    have v881 : IVec S16 32 := broadcast S16 c16_i32_186
    have v882 : IVec S16 32 := muli v835 v881
    have v883 : IVec S16 32 := addi v882 lanes
    have k0_hw8 : k0_chk8 v856 v883 := (← Prog.lift (TpuEff.assume (k0_chk8 v856 v883) (k0_chk8.dec v856 v883))).down
    SparseCore.vectorStoreIdx cb ![v883] v839 v840 false (k0_idx8_inb v856 v883 k0_hw8 k0_h1) (View.stores_vmem_bits_univ h_S32768 rfl)
    pure ⟨⟩
  else do
    pure ⟨⟩
  pure v842

theorem iter8 {σ : Type} (f : ℕ → σ → σ) (a : σ) : iter f a 8 = f 7 (f 6 (f 5 (f 4 (f 3 (f 2 (f 1 (f 0 a))))))) := rfl

theorem comp_fst (x : Row F) (c : V16 F) (g : Row F) : ∀ n, iter (fun t n => cnts x c t n 8) (broadcast S16 0#32) n = (comp x c g n).1
  | 0 => rfl
  | n + 1 => by
    show cnts x c n (iter _ _ n) 8 = cnts x c n (comp x c g n).1 8
    rw [comp_fst x c g n]

theorem comp_snd (x : Row F) (c : V16 F) (g : Row F) (n : ℕ) : (comp x c g (n + 1)).2
    = if k0_cond1 (anyw x c n) = 1#1 then iter (fun u g' => scat x c (128 * n + 16 * u) (cnts x c n (comp x c g n).1 u) g') (comp x c g n).2 8
      else (comp x c g n).2 := rfl

theorem scat_eq (x : Row F) (c : V16 F) (o : ℕ) (cnt : IVec S16 32) (g : Row F) (h : ∀ a l,
    ((![(addi (muli cnt (broadcast S16 16#32)) lanes : IVec S16 32)] : Fin 1 → IVec S16 32) a l).toNat < S32768.size a) :
    scat x c o cnt g = storeIdx g ![(addi (muli cnt (broadcast S16 16#32)) lanes : IVec S16 32)] (sl x o) (msk x c o) false h := dif_pos h

theorem wp_comp {x g : Row F} {c : V16 F} {β : Type} {kk : IVec S16 32 → Pr F L β} {Q : β → sProp 𝕄} :
    iprop(pt d L b x ∗ pt d L cb g) ⊢ iprop((pt d L b x ∗ pt d L cb (comp x c g 256).2 -∗ WP d L (kk (comp x c g 256).1) Q)
      -∗ WP d L (Scf.Loop.for k0_t2_loop k0_t2_ok (broadcast S16 0#32) (compBody L a2 h2 a3 h3 b hb b' hb' cb hcb s7 s8 s9 s10 c) >>= kk) Q) := by
  rw [← comp_fst x c g 256]
  refine wp_loop d L (fun t n => cnts x c t n 8) (fun t => iprop(pt d L b x ∗ pt d L cb (comp x c g t).2)) 256 t1_trips fun t => ?_
  have ht : t.val < 256 := lt_of_lt_of_eq t.isLt t1_trips
  have hi := fun (u : ℕ) (hu : u < 8) => idx_inb _ (fun l => cnts_lt x c g t.val u ht hu l)
  have hs := fun (u : ℕ) (hu : u < 8) (g' : Row F) => scat_eq x c (128 * t.val + 16 * u) _ g' (hi u hu)
  rw [comp_fst x c g]
  iintro ⟨H, HC⟩
  unfold compBody k0_part2
  iapply (wp_ld d L (off4_eq t 0 (by decide))) $$ H; iintro H
  iapply (wp_ld d L (off4_eq t 1 (by decide))) $$ H; iintro H
  iapply (wp_ld d L (off4_eq t 2 (by decide))) $$ H; iintro H
  iapply (wp_ld d L (off4_eq t 3 (by decide))) $$ H; iintro H
  iapply (wp_ld d L (off4_eq t 4 (by decide))) $$ H; iintro H
  iapply (wp_ld d L (off4_eq t 5 (by decide))) $$ H; iintro H
  iapply (wp_ld d L (off4_eq t 6 (by decide))) $$ H; iintro H
  iapply (wp_ld d L (off4_eq t 7 (by decide))) $$ H; iintro H
  by_cases hc : k0_cond1 (anyw x c t.val) = 1#1
  · iapply (wp_yes d L hc)
    iapply (wp_as d L (fun _ => hi 0 (by decide)))
    iapply (wp_si d L) $$ HC; iintro HC
    iapply (wp_as d L (fun _ => hi 1 (by decide)))
    iapply (wp_si d L) $$ HC; iintro HC
    iapply (wp_as d L (fun _ => hi 2 (by decide)))
    iapply (wp_si d L) $$ HC; iintro HC
    iapply (wp_as d L (fun _ => hi 3 (by decide)))
    iapply (wp_si d L) $$ HC; iintro HC
    iapply (wp_as d L (fun _ => hi 4 (by decide)))
    iapply (wp_si d L) $$ HC; iintro HC
    iapply (wp_as d L (fun _ => hi 5 (by decide)))
    iapply (wp_si d L) $$ HC; iintro HC
    iapply (wp_as d L (fun _ => hi 6 (by decide)))
    iapply (wp_si d L) $$ HC; iintro HC
    iapply (wp_as d L (fun _ => hi 7 (by decide)))
    iapply (wp_si d L) $$ HC; iintro HC
    iapply (wp_rt d L)
    isplitr
    · ipureintro; rw [← comp_fst x c g]; rfl
    isplitl [H]; · iexact H
    rw [comp_snd, if_pos hc, iter8]
    rw [hs 7 (by decide), hs 6 (by decide), hs 5 (by decide), hs 4 (by decide), hs 3 (by decide), hs 2 (by decide), hs 1 (by decide), hs 0 (by decide)]
    iexact HC
  · iapply (wp_no d L hc)
    iapply (wp_rt d L)
    isplitr
    · ipureintro; rw [← comp_fst x c g]; rfl
    isplitl [H]; · iexact H
    rw [comp_snd, if_neg hc]
    iexact HC

end Cert.Proof
-- ==== Proof.Loops2.lean ====
/-
  The loops over the candidates and the output loop, each run from what its buffers read to what the model's loop leaves.
-/
module

public import proofs.«01_k».proof.Proof.Loops

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]
variable (d : Dev nD) (L : grid0.Coords)

variable {d : Dev nD} {L : grid0.Coords}
variable (a2 : Memref sig .scVector .hbm S128x32768 .f32) (h2 : a2.IsWhole) (a3 : Memref sig .scVector .hbm S128x32768 .f32) (h3 : a3.IsWhole)
  (b : VBuf) (hb : b.IsWhole) (b' : VBuf) (hb' : b'.IsWhole) (cb : VBuf) (hcb : cb.IsWhole)
variable (s7 s8 s9 s10 : DmaSems sig S_)

/-- A loop with no trip. -/
theorem wp_rem {σ : Type} {lp : Scf.Loop 32} {ok : lp.OK} {init : σ} {body : Fin lp.trips → σ → Pr F L σ} (hn : lp.trips = 0)
    {β : Type} {kk : σ → Pr F L β} {Q : β → sProp 𝕄} :
    WP d L (kk init) Q ⊢ WP d L (Scf.Loop.for lp ok init body >>= kk) Q := by
  iintro H
  iapply (wp_loop d L (ok := ok) (init := init) (body := body) (fun _ a => a) (fun _ => iprop(⌜True⌝)) 0 hn (fun t => absurd t.isLt (by omega))) $$ []
  · ipureintro; trivial
  iintro _
  iexact H

variable (L) in
/-- A trip of the clearing. -/
abbrev clearBody (v : BitVec 32) (hw : k0_chk9 v) (cnt : IVec S16 32) (t : Fin (k0_t3_loop v).trips) (_ : PUnit) : Pr F L PUnit := do
  let arg11 : BitVec 32 := Scf.iv 0#32 1#32 t
  have v785 : IVec S16 32 := broadcast S16 arg11
  let c16_i32 : BitVec 32 := 16#32
  let v786 : BitVec 32 := Scalar.muli arg11 c16_i32
  let v787 : Index := Scalar.indexCast v786
  let v788 : Vec F S16 .f32 ← Prog.lift (.load cb (Rect.unit (s := S32768) (k0_off5 v t) S16.size (k0_off5_inb v hw t)).toLoadRect (View.loadsAt_vmem h_S16))
  have v789 : IVec S16 1 := cmpi .slt v785 cnt
  have cst_162 : F .f32 := Named.named κ "below_all" 0xFF61B1E6#32
  have v790 : FVec F S16 .f32 := broadcast S16 cst_162
  have v791 : Vec F S16 .f32 := select v789 v788 v790
  let c16_i32_163 : BitVec 32 := 16#32
  let v792 : BitVec 32 := Scalar.muli arg11 c16_i32_163
  let v793 : Index := Scalar.indexCast v792
  let v794 : Vec F S16 .f32 ← Prog.lift (.load cb (Rect.unit (s := S32768) (k0_off5 v t) S16.size (k0_off5_inb v hw t)).toLoadRect (View.loadsAt_vmem h_S16))
  Prog.lift (.store cb (Rect.unit (s := S32768) (k0_off5 v t) S16.size (k0_off5_inb v hw t)) v791 Finset.univ (View.stores_vmem_bits_univ h_S16 rfl) (.inl rfl))
  pure ⟨⟩

theorem wp_clear {g : Row F} {cnt : IVec S16 32} {v : BitVec 32} (hw : k0_chk9 v) (hv : v.toNat ≤ 2048)
    {β : Type} {kk : PUnit → Pr F L β} {Q : β → sProp 𝕄} :
    pt d L cb g ⊢ iprop((pt d L cb (iter (clearStep (Named.named κ "below_all" 0xFF61B1E6#32) cnt) g v.toNat) -∗ WP d L (kk ⟨⟩) Q)
      -∗ WP d L (Scf.Loop.for (k0_t3_loop v) (k0_t3_ok v hw) ⟨⟩ (clearBody L cb v hw cnt) >>= kk) Q) := by
  refine wp_loop d L (fun _ _ => PUnit.unit) (fun k => pt d L cb (iter (clearStep (Named.named κ "below_all" 0xFF61B1E6#32) cnt) g k)) v.toNat (t3_trips v hv) fun t => ?_
  iintro H
  unfold clearBody
  rw [iv_eq]
  iapply (wp_ld d L (off5_eq v hv t)) $$ H; iintro H
  iapply (wp_ld d L (off5_eq v hv t)) $$ H; iintro H
  iapply (wp_st d L (off5_eq v hv t)) $$ H; iintro H
  iapply (wp_rt d L)
  isplitr
  · ipureintro; rfl
  · iexact H

variable (L) in
/-- A trip of the sum of the positive parts. -/
abbrev sumBody (v : BitVec 32) (hw : k0_chk9 v) (mid : V16 F) (t : Fin (k0_t6_loop v).trips) (acc : V16 F) : Pr F L (V16 F) := do
  let arg14 : BitVec 32 := Scf.iv 0#32 1#32 t
  let c16_i32 : BitVec 32 := 16#32
  let v849 : BitVec 32 := Scalar.muli arg14 c16_i32
  let v850 : Index := Scalar.indexCast v849
  let v851 : Vec F S16 .f32 ← Prog.lift (.load cb (Rect.unit (s := S32768) (k0_off7 v t) S16.size (k0_off7_inb v hw t)).toLoadRect (View.loadsAt_vmem h_S16))
  have v852 : FVec F S16 .f32 := subf v851 mid
  have cst_170 : F .f32 := Scalar.ofBits .f32 0x00000000#32
  have v853 : FVec F S16 .f32 := broadcast S16 cst_170
  have v854 : FVec F S16 .f32 := maximumf v852 v853
  have v855 : FVec F S16 .f32 := addf acc v854
  pure v855

theorem wp_sum {g : Row F} {mid : V16 F} {v : BitVec 32} (hw : k0_chk9 v) (hv : v.toNat ≤ 2048)
    {β : Type} {kk : V16 F → Pr F L β} {Q : β → sProp 𝕄} :
    pt d L cb g ⊢ iprop((pt d L cb g -∗ WP d L (kk (excess g mid v.toNat)) Q)
      -∗ WP d L (Scf.Loop.for (k0_t6_loop v) (k0_t6_ok v hw) (bc 0x00000000#32) (sumBody L cb v hw mid) >>= kk) Q) := by
  refine wp_loop d L (fun k acc => addf acc (maximumf (subf (sl g (16 * k)) mid) (bc 0x00000000#32))) (fun _ => pt d L cb g) v.toNat (t3_trips v hv) fun t => ?_
  iintro H
  unfold sumBody
  iapply (wp_ld d L (off5_eq v hv t)) $$ H; iintro H
  iapply (wp_rt d L)
  isplitr
  · ipureintro; rfl
  · iexact H

variable (L) in
/-- A bisection step. -/
abbrev bisBody (v : BitVec 32) (hw : k0_chk9 v) (t : Fin k0_t5_loop.trips) : V16 F × V16 F → Pr F L (V16 F × V16 F) := fun (arg12, arg13) => do
  let ⟨v787, v795, v836, v837⟩ : Σ' (v787 : FVec F S16 .f32) (v795 : FVec F S16 .f32) (v836 : F .f32), FVec F S1 .f32 ← k0_part3 L a2 h2 a3 h3 b hb b' hb' cb hcb s7 s8 s9 s10 v hw 0#32 1#32 t arg12 arg13
  have v838 : F .f32 := extractAt ![0] v837 inpos_S1_p0
  have v839 : F .f32 := Scalar.addf v836 v838
  have v840 : FVec F S1 .f32 := extractStridedSlice S1 ![15] v795 slices_S16_o15_S1
  have v841 : F .f32 := extractAt ![0] v840 inpos_S1_p0
  have v842 : F .f32 := Scalar.addf v839 v841
  have cst_168 : F .f32 := Scalar.ofBits .f32 0x3F800000#32
  have v843 : F .f32 := Scalar.subf v842 cst_168
  have v844 : FVec F S16 .f32 := broadcast S16 v843
  have cst_169 : F .f32 := Scalar.ofBits .f32 0x00000000#32
  have v845 : FVec F S16 .f32 := broadcast S16 cst_169
  have v846 : IVec S16 1 := cmpf .oge v844 v845
  have v847 : FVec F S16 .f32 := select v846 v787 arg12
  have v848 : FVec F S16 .f32 := select v846 arg13 v787
  pure (v847, v848)

theorem wp_bis {g : Row F} {init : V16 F × V16 F} {v : BitVec 32} (hw : k0_chk9 v) (hv : v.toNat ≤ 2048)
    {β : Type} {kk : V16 F × V16 F → Pr F L β} {Q : β → sProp 𝕄} :
    pt d L cb g ⊢ iprop((pt d L cb g -∗ WP d L (kk (iter (fun _ => bisStep g v.toNat) init 24)) Q)
      -∗ WP d L (Scf.Loop.for k0_t5_loop k0_t5_ok init (bisBody L a2 h2 a3 h3 b hb b' hb' cb hcb s7 s8 s9 s10 v hw) >>= kk) Q) := by
  refine wp_loop d L (fun _ => bisStep g v.toNat) (fun _ => pt d L cb g) 24 (by decide) fun t => ?_
  rw [show iter (fun _ => bisStep g v.toNat) init (t.val + 1) = bisStep g v.toNat (iter (fun _ => bisStep g v.toNat) init t.val) from rfl]
  generalize iter (fun _ => bisStep g v.toNat) init t.val = p
  obtain ⟨p1, p2⟩ := p
  iintro H
  unfold bisBody
  iapply (wp_bd d L)
  unfold k0_part3
  iapply (wp_sum cb hw hv) $$ H; iintro H
  iapply (wp_rem (t4_trips v hv))
  iapply (wp_rt d L)
  iapply (wp_rt d L)
  isplitr
  · ipureintro; rfl
  · iexact H

variable (L) in
/-- A trip of the refinement. -/
abbrev refBody (v : BitVec 32) (hw : k0_chk9 v) (lo : V16 F) (t : Fin (k0_t8_loop v).trips) : V16 F × V16 F → Pr F L (V16 F × V16 F) := fun (arg12, arg13) => do
  let arg11 : BitVec 32 := Scf.iv 0#32 1#32 t
  let c16_i32 : BitVec 32 := 16#32
  let v785 : BitVec 32 := Scalar.muli arg11 c16_i32
  let v786 : Index := Scalar.indexCast v785
  let v787 : Vec F S16 .f32 ← Prog.lift (.load cb (Rect.unit (s := S32768) (k0_off9 v t) S16.size (k0_off9_inb v hw t)).toLoadRect (View.loadsAt_vmem h_S16))
  have v788 : IVec S16 1 := cmpf .ogt v787 lo
  have cst_162 : F .f32 := Scalar.ofBits .f32 0x00000000#32
  have v789 : FVec F S16 .f32 := broadcast S16 cst_162
  have v790 : Vec F S16 .f32 := select v788 v787 v789
  have v791 : FVec F S16 .f32 := addf arg12 v790
  have cst_163 : F .f32 := Scalar.ofBits .f32 0x3F800000#32
  have cst_164 : F .f32 := Scalar.ofBits .f32 0x00000000#32
  have v792 : FVec F S16 .f32 := broadcast S16 cst_163
  have v793 : FVec F S16 .f32 := broadcast S16 cst_164
  have v794 : FVec F S16 .f32 := select v788 v792 v793
  have v795 : FVec F S16 .f32 := addf arg13 v794
  pure (v791, v795)

theorem wp_ref {g : Row F} {lo : V16 F} {init : V16 F × V16 F} {v : BitVec 32} (hw : k0_chk9 v) (hv : v.toNat ≤ 2048)
    {β : Type} {kk : V16 F × V16 F → Pr F L β} {Q : β → sProp 𝕄} :
    pt d L cb g ⊢ iprop((pt d L cb g -∗ WP d L (kk (iter (refStep g lo) init v.toNat)) Q)
      -∗ WP d L (Scf.Loop.for (k0_t8_loop v) (k0_t8_ok v hw) init (refBody L cb v hw lo) >>= kk) Q) := by
  refine wp_loop d L (refStep g lo) (fun _ => pt d L cb g) v.toNat (t3_trips v hv) fun t => ?_
  rw [show iter (refStep g lo) init (t.val + 1) = refStep g lo t.val (iter (refStep g lo) init t.val) from rfl]
  generalize iter (refStep g lo) init t.val = p
  obtain ⟨p1, p2⟩ := p
  iintro H
  unfold refBody
  iapply (wp_ld d L (off5_eq v hv t)) $$ H; iintro H
  iapply (wp_rt d L)
  isplitr
  · ipureintro; rfl
  · iexact H

variable (L) in
/-- A trip of the output loop. -/
abbrev outBody (th : V16 F) (t : Fin k0_t10_loop.trips) (_ : PUnit) : Pr F L PUnit := do
  let ⟨v786, v821⟩ : Σ' (v786 : BitVec 32), BitVec 32 ← k0_part4 L a2 h2 a3 h3 b hb b' hb' cb hcb s7 s8 s9 s10 th 0#32 1#32 t
  let ⟨v859, v860, c16_i32_194⟩ : Σ' (v859 : FVec F S16 .f32) (v860 : BitVec 32), BitVec 32 ← k0_part5 L a2 h2 a3 h3 b hb b' hb' cb hcb s7 s8 s9 s10 th t v786 v821
  let v861 : BitVec 32 := Scalar.muli v860 c16_i32_194
  let v862 : Index := Scalar.indexCast v861
  let v863 : Vec F S16 .f32 ← Prog.lift (.load b (Rect.unit (s := S32768) (k0_off11 t 6#32) S16.size (k0_off11_inb t 6)).toLoadRect (View.loadsAt_vmem h_S16))
  Prog.lift (.store b (Rect.unit (s := S32768) (k0_off11 t 6#32) S16.size (k0_off11_inb t 6)) v859 Finset.univ (View.stores_vmem_bits_univ h_S16 rfl) (.inl rfl))
  let c7_i32 : BitVec 32 := 7#32
  let v864 : BitVec 32 := Scalar.addi v786 c7_i32
  let c16_i32_195 : BitVec 32 := 16#32
  let v865 : BitVec 32 := Scalar.muli v864 c16_i32_195
  let v866 : Index := Scalar.indexCast v865
  let v867 : Vec F S16 .f32 ← Prog.lift (.load b (Rect.unit (s := S32768) (k0_off11 t 7#32) S16.size (k0_off11_inb t 7)).toLoadRect (View.loadsAt_vmem h_S16))
  have v868 : FVec F S16 .f32 := subf v867 th
  have cst_196 : F .f32 := Scalar.ofBits .f32 0x00000000#32
  have v869 : FVec F S16 .f32 := broadcast S16 cst_196
  have v870 : FVec F S16 .f32 := maximumf v868 v869
  let c7_i32_197 : BitVec 32 := 7#32
  let v871 : BitVec 32 := Scalar.addi v786 c7_i32_197
  let c16_i32_198 : BitVec 32 := 16#32
  let v872 : BitVec 32 := Scalar.muli v871 c16_i32_198
  let v873 : Index := Scalar.indexCast v872
  let v874 : Vec F S16 .f32 ← Prog.lift (.load b (Rect.unit (s := S32768) (k0_off11 t 7#32) S16.size (k0_off11_inb t 7)).toLoadRect (View.loadsAt_vmem h_S16))
  Prog.lift (.store b (Rect.unit (s := S32768) (k0_off11 t 7#32) S16.size (k0_off11_inb t 7)) v870 Finset.univ (View.stores_vmem_bits_univ h_S16 rfl) (.inl rfl))
  pure ⟨⟩

theorem wp_out {x : Row F} {th : V16 F} {β : Type} {kk : PUnit → Pr F L β} {Q : β → sProp 𝕄} :
    pt d L b x ⊢ iprop((pt d L b (iter (outStep th) x 256) -∗ WP d L (kk ⟨⟩) Q)
      -∗ WP d L (Scf.Loop.for k0_t10_loop k0_t10_ok ⟨⟩ (outBody L a2 h2 a3 h3 b hb b' hb' cb hcb s7 s8 s9 s10 th) >>= kk) Q) := by
  refine wp_loop d L (fun _ _ => PUnit.unit) (fun t => pt d L b (iter (outStep th) x t)) 256 t1_trips fun t => ?_
  iintro H
  unfold outBody k0_part4 k0_part5
  iapply (wp_ld d L (off11_eq t 0 (by decide))) $$ H; iintro H
  iapply (wp_ld d L (off11_eq t 0 (by decide))) $$ H; iintro H
  iapply (wp_st d L (off11_eq t 0 (by decide))) $$ H; iintro H
  iapply (wp_ld d L (off11_eq t 1 (by decide))) $$ H; iintro H
  iapply (wp_ld d L (off11_eq t 1 (by decide))) $$ H; iintro H
  iapply (wp_st d L (off11_eq t 1 (by decide))) $$ H; iintro H
  iapply (wp_ld d L (off11_eq t 2 (by decide))) $$ H; iintro H
  iapply (wp_ld d L (off11_eq t 2 (by decide))) $$ H; iintro H
  iapply (wp_st d L (off11_eq t 2 (by decide))) $$ H; iintro H
  iapply (wp_ld d L (off11_eq t 3 (by decide))) $$ H; iintro H
  iapply (wp_ld d L (off11_eq t 3 (by decide))) $$ H; iintro H
  iapply (wp_st d L (off11_eq t 3 (by decide))) $$ H; iintro H
  iapply (wp_ld d L (off11_eq t 4 (by decide))) $$ H; iintro H
  iapply (wp_ld d L (off11_eq t 4 (by decide))) $$ H; iintro H
  iapply (wp_st d L (off11_eq t 4 (by decide))) $$ H; iintro H
  iapply (wp_ld d L (off11_eq t 5 (by decide))) $$ H; iintro H
  iapply (wp_ld d L (off11_eq t 5 (by decide))) $$ H; iintro H
  iapply (wp_st d L (off11_eq t 5 (by decide))) $$ H; iintro H
  iapply (wp_ld d L (off11_eq t 6 (by decide))) $$ H; iintro H
  iapply (wp_ld d L (off11_eq t 6 (by decide))) $$ H; iintro H
  iapply (wp_st d L (off11_eq t 6 (by decide))) $$ H; iintro H
  iapply (wp_ld d L (off11_eq t 7 (by decide))) $$ H; iintro H
  iapply (wp_ld d L (off11_eq t 7 (by decide))) $$ H; iintro H
  iapply (wp_st d L (off11_eq t 7 (by decide))) $$ H; iintro H
  iapply (wp_rt d L)
  isplitr
  · ipureintro; rfl
  · iexact H

end Cert.Proof
-- ==== Proof.Tile.lean ====
/-
  The task's body: four rows, each fetched, worked on in place and written back.
-/
module

public import proofs.«01_k».proof.Proof.Dma
public import proofs.«01_k».proof.Proof.Loops2

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]
variable (d : Dev nD) (L : grid0.Coords)

variable {d L}
variable (a2 : Memref sig .scVector .hbm S128x32768 .f32) (h2 : a2.IsWhole) (a3 : Memref sig .scVector .hbm S128x32768 .f32) (h3 : a3.IsWhole)
  (b : VBuf) (hb : b.IsWhole) (b' : VBuf) (hb' : b'.IsWhole) (cb : VBuf) (hcb : cb.IsWhole)
variable (s7 s8 s9 s10 : DmaSems sig S_)

/-- What the vectors are cleared with. -/
abbrev below : F .f32 := Named.named κ "below_all" 0xFF61B1E6#32

/-- The row's clearing. -/
theorem wp_clear' {x g : Row F} (hw : k0_chk9 (maxn below x g)) {β : Type} {kk : PUnit → Pr F L β} {Q : β → sProp 𝕄} :
    pt d L cb (comp x (cut below x) g 256).2 ⊢ iprop((pt d L cb (cands below x g) -∗ WP d L (kk ⟨⟩) Q)
      -∗ WP d L (Scf.Loop.for (k0_t3_loop (maxn below x g)) (k0_t3_ok (maxn below x g) hw) ⟨⟩
        (clearBody L cb (maxn below x g) hw (comp x (cut below x) g 256).1) >>= kk) Q) :=
  wp_clear cb hw (maxn_le below x g)

/-- The row's bisections, their result taken apart. -/
theorem wp_bis' {x g : Row F} (hw : k0_chk9 (maxn below x g))
    {β : Type} {kk : V16 F × V16 F → Pr F L β} {Q : β → sProp 𝕄} :
    pt d L cb (cands below x g) ⊢ iprop((pt d L cb (cands below x g) -∗ WP d L (kk ((bracket below x g).1, (bracket below x g).2)) Q)
      -∗ WP d L (Scf.Loop.for k0_t5_loop k0_t5_ok (cut below x, broadcast S16 (rowMax below x)) (bisBody L a2 h2 a3 h3 b hb b' hb' cb hcb s7 s8 s9 s10 (maxn below x g) hw) >>= kk) Q) :=
  wp_bis a2 h2 a3 h3 b hb b' hb' cb hcb s7 s8 s9 s10 hw (maxn_le below x g)

/-- The row's sums and counts above the bracket's lower end. -/
def sums (x g : Row F) : V16 F × V16 F :=
  iter (refStep (cands below x g) (bracket below x g).1) (bc 0x00000000#32, bc 0x00000000#32) (maxn below x g).toNat

theorem wp_ref' {x g : Row F} (hw : k0_chk9 (maxn below x g))
    {β : Type} {kk : V16 F × V16 F → Pr F L β} {Q : β → sProp 𝕄} :
    pt d L cb (cands below x g) ⊢ iprop((pt d L cb (cands below x g) -∗ WP d L (kk ((sums x g).1, (sums x g).2)) Q)
      -∗ WP d L (Scf.Loop.for (k0_t8_loop (maxn below x g)) (k0_t8_ok (maxn below x g) hw) (bc 0x00000000#32, bc 0x00000000#32)
        (refBody L cb (maxn below x g) hw (bracket below x g).1) >>= kk) Q) :=
  wp_ref cb hw (maxn_le below x g)

/-- An array's row as the body names it. -/
abbrev rowOf (a : Memref sig .scVector .hbm S128x32768 .f32) (o : Fin 2 → ℕ) (h : ∀ a, o a + S1x32768.size a ≤ S128x32768.size a) : RRef .hbm :=
  (a.slice (Rect.unit (s := S128x32768) o S1x32768.size h) (fun _ => rfl)).squeeze S32768 squeezes_S1x32768_S32768

/-- The row's output. -/
theorem wp_out' {x g : Row F} {β : Type} {kk : PUnit → Pr F L β} {Q : β → sProp 𝕄} :
    pt d L b x ⊢ iprop((pt d L b (rowOut below x g) -∗ WP d L (kk ⟨⟩) Q)
      -∗ WP d L (Scf.Loop.for k0_t10_loop k0_t10_ok ⟨⟩ (outBody L a2 h2 a3 h3 b hb b' hb' cb hcb s7 s8 s9 s10 (rowTheta below x g)) >>= kk) Q) :=
  wp_out a2 h2 a3 h3 b hb b' hb' cb hcb s7 s8 s9 s10

/-- The whole body: every row of the result is the row's function of the row read. -/
theorem body {O : CellTallies nD τ sig (HIx 1)} {W : Waits sig (HIx 1)} {x0 x1 x2 x3 y0 y1 y2 y3 z0 z1 g : Row F} :
    iprop(pg d L (rowOf a2 (k0_off1 L) (k0_off1_inb L)) x0 ∗ pg d L (rowOf a2 (k0_off2 L) (k0_off2_inb L)) x1 ∗ pg d L (rowOf a2 (k0_off13 L 1#32) (k0_off13_inb L 1)) x2 ∗ pg d L (rowOf a2 (k0_off24 L 2#32) (k0_off24_inb L 1)) x3 ∗
        pg d L (rowOf a3 (k0_off12 L) (k0_off12_inb L)) y0 ∗ pg d L (rowOf a3 (k0_off23 L) (k0_off23_inb L)) y1 ∗ pg d L (rowOf a3 (k0_off34 L) (k0_off34_inb L)) y2 ∗ pg d L (rowOf a3 (k0_off45 L 3#32) (k0_off45_inb L 1)) y3 ∗
        pt d L b z0 ∗ pt d L b' z1 ∗ pt d L cb g ∗ semVal (cell d L s7.sem) 0 ∗ semVal (cell d L s8.sem) 0 ∗ semVal (cell d L s9.sem) 0 ∗ semVal (cell d L s10.sem) 0
        ∗ owes (tv d L) O W ∗ Transfers.MayWaits (tv d L) none O)
      ⊢ WP d L (cc0__sc_body L a2 h2 a3 h3 b hb b' hb' cb hcb s7 s8 s9 s10) fun _ => iprop(pg d L (rowOf a2 (k0_off1 L) (k0_off1_inb L)) x0 ∗ pg d L (rowOf a2 (k0_off2 L) (k0_off2_inb L)) x1 ∗ pg d L (rowOf a2 (k0_off13 L 1#32) (k0_off13_inb L 1)) x2 ∗ pg d L (rowOf a2 (k0_off24 L 2#32) (k0_off24_inb L 1)) x3 ∗
        (∃ g, pg d L (rowOf a3 (k0_off12 L) (k0_off12_inb L)) (rowOut below x0 g)) ∗ (∃ g, pg d L (rowOf a3 (k0_off23 L) (k0_off23_inb L)) (rowOut below x1 g)) ∗ (∃ g, pg d L (rowOf a3 (k0_off34 L) (k0_off34_inb L)) (rowOut below x2 g)) ∗ (∃ g, pg d L (rowOf a3 (k0_off45 L 3#32) (k0_off45_inb L 1)) (rowOut below x3 g)) ∗
        (∃ z, pt d L b z) ∗ (∃ z, pt d L b' z) ∗ (∃ z, pt d L cb z) ∗ semVal (cell d L s7.sem) 0 ∗ semVal (cell d L s8.sem) 0 ∗ semVal (cell d L s9.sem) 0 ∗ semVal (cell d L s10.sem) 0
        ∗ ∃ W', owes (tv d L) O W') := by
  iintro ⟨X0, X1, X2, X3, Y0, Y1, Y2, Y3, B0, B1, C, S7, S8, S9, S10, HO, #HM⟩
  unfold cc0__sc_body
  iapply (wp_bd d L)
  unfold k0_part21
  iapply (wp_in d L) $$ [X0 B0 S7]
  · isplitl [X0]
    · iexact X0
    isplitl [B0]
    · iexact B0
    iexact S7
  iintro F7
  iapply (wp_inw d L rfl) $$ [F7 HO HM]
  · isplitl [F7]
    · iexact F7
    isplitl [HO]
    · iexact HO
    iexact HM
  iintro ⟨X0, B0, S7, HO⟩
  iapply (wp_in d L) $$ [X1 B1 S8]
  · isplitl [X1]
    · iexact X1
    isplitl [B1]
    · iexact B1
    iexact S8
  iintro F8
  iapply (wp_max a2 h2 a3 h3 b hb b' hb' cb hcb s7 s8 s9 s10 (x := x0) (init := broadcast S16 below)) $$ B0; iintro B0
  iapply (wp_rt d L)
  iapply (wp_bd d L)
  unfold k0_part22
  iapply (wp_comp a2 h2 a3 h3 b hb b' hb' cb hcb s7 s8 s9 s10 (x := x0) (c := cut below x0)) $$ [B0 C]
  · isplitl [B0]
    · iexact B0
    iexact C
  iintro ⟨B0, C⟩
  iapply (wp_as d L (chk9 _ (maxn_le below x0 g)))
  iapply (wp_clear' cb (x := x0) (g := g) (chk9 _ (maxn_le below x0 g))) $$ C; iintro C
  iapply (wp_rem (t4_trips _ (maxn_le below x0 g)))
  iapply (wp_rt d L)
  iapply (wp_bd d L)
  unfold k0_part23
  iapply (wp_bis' a2 h2 a3 h3 b hb b' hb' cb hcb s7 s8 s9 s10 (x := x0) (g := g) (chk9 _ (maxn_le below x0 g))) $$ C; iintro C
  iapply (wp_ref' cb (x := x0) (g := g) (chk9 _ (maxn_le below x0 g))) $$ C; iintro C
  iapply (wp_rem (t4_trips _ (maxn_le below x0 g)))
  iapply (wp_rt d L)
  iapply (wp_bd d L)
  unfold k0_part24
  iapply (wp_rt d L)
  iapply (wp_bd d L)
  unfold k0_part25
  iapply (wp_out' a2 h2 a3 h3 b hb b' hb' cb hcb s7 s8 s9 s10 (x := x0) (g := g)) $$ B0; iintro B0
  iapply (wp_back d L) $$ [B0 Y0 S9]
  · isplitl [B0]
    · iexact B0
    isplitl [Y0]
    · iexact Y0
    iexact S9
  iintro F9
  iapply (wp_inw d L rfl) $$ [F8 HO HM]
  · isplitl [F8]
    · iexact F8
    isplitl [HO]
    · iexact HO
    iexact HM
  iintro ⟨X1, B1, S8, HO⟩
  iapply (wp_backw d L rfl) $$ [F9 HO HM]
  · isplitl [F9]
    · iexact F9
    isplitl [HO]
    · iexact HO
    iexact HM
  iintro ⟨B0, Y0, S9, HO⟩
  iapply (wp_in d L) $$ [X2 B0 S7]
  · isplitl [X2]
    · iexact X2
    isplitl [B0]
    · iexact B0
    iexact S7
  iintro F7
  iapply (wp_max a2 h2 a3 h3 b' hb' b hb cb hcb s7 s8 s9 s10 (x := x1) (init := broadcast S16 below)) $$ B1; iintro B1
  iapply (wp_rt d L)
  iapply (wp_bd d L)
  unfold k0_part26
  iapply (wp_comp a2 h2 a3 h3 b' hb' b hb cb hcb s7 s8 s9 s10 (x := x1) (c := cut below x1)) $$ [B1 C]
  · isplitl [B1]
    · iexact B1
    iexact C
  iintro ⟨B1, C⟩
  iapply (wp_as d L (chk9 _ (maxn_le below x1 (cands below x0 g))))
  iapply (wp_rt d L)
  iapply (wp_bd d L)
  unfold k0_part27
  iapply (wp_clear' cb (x := x1) (g := (cands below x0 g)) (chk9 _ (maxn_le below x1 (cands below x0 g)))) $$ C; iintro C
  iapply (wp_rem (t4_trips _ (maxn_le below x1 (cands below x0 g))))
  iapply (wp_bis' a2 h2 a3 h3 b' hb' b hb cb hcb s7 s8 s9 s10 (x := x1) (g := (cands below x0 g)) (chk9 _ (maxn_le below x1 (cands below x0 g)))) $$ C; iintro C
  iapply (wp_ref' cb (x := x1) (g := (cands below x0 g)) (chk9 _ (maxn_le below x1 (cands below x0 g)))) $$ C; iintro C
  iapply (wp_rem (t4_trips _ (maxn_le below x1 (cands below x0 g))))
  iapply (wp_rt d L)
  iapply (wp_bd d L)
  unfold k0_part28
  iapply (wp_rt d L)
  iapply (wp_bd d L)
  unfold k0_part29
  iapply (wp_out' a2 h2 a3 h3 b' hb' b hb cb hcb s7 s8 s9 s10 (x := x1) (g := (cands below x0 g))) $$ B1; iintro B1
  iapply (wp_back d L) $$ [B1 Y1 S10]
  · isplitl [B1]
    · iexact B1
    isplitl [Y1]
    · iexact Y1
    iexact S10
  iintro F10
  iapply (wp_inw d L rfl) $$ [F7 HO HM]
  · isplitl [F7]
    · iexact F7
    isplitl [HO]
    · iexact HO
    iexact HM
  iintro ⟨X2, B0, S7, HO⟩
  iapply (wp_backw d L rfl) $$ [F10 HO HM]
  · isplitl [F10]
    · iexact F10
    isplitl [HO]
    · iexact HO
    iexact HM
  iintro ⟨B1, Y1, S10, HO⟩
  iapply (wp_in d L) $$ [X3 B1 S8]
  · isplitl [X3]
    · iexact X3
    isplitl [B1]
    · iexact B1
    iexact S8
  iintro F8
  iapply (wp_max a2 h2 a3 h3 b hb b' hb' cb hcb s7 s8 s9 s10 (x := x2) (init := broadcast S16 below)) $$ B0; iintro B0
  iapply (wp_rt d L)
  iapply (wp_bd d L)
  unfold k0_part30
  iapply (wp_comp a2 h2 a3 h3 b hb b' hb' cb hcb s7 s8 s9 s10 (x := x2) (c := cut below x2)) $$ [B0 C]
  · isplitl [B0]
    · iexact B0
    iexact C
  iintro ⟨B0, C⟩
  iapply (wp_rt d L)
  iapply (wp_bd d L)
  unfold k0_part31
  iapply (wp_as d L (chk9 _ (maxn_le below x2 (cands below x1 (cands below x0 g)))))
  iapply (wp_clear' cb (x := x2) (g := (cands below x1 (cands below x0 g))) (chk9 _ (maxn_le below x2 (cands below x1 (cands below x0 g))))) $$ C; iintro C
  iapply (wp_rem (t4_trips _ (maxn_le below x2 (cands below x1 (cands below x0 g)))))
  iapply (wp_bis' a2 h2 a3 h3 b hb b' hb' cb hcb s7 s8 s9 s10 (x := x2) (g := (cands below x1 (cands below x0 g))) (chk9 _ (maxn_le below x2 (cands below x1 (cands below x0 g))))) $$ C; iintro C
  iapply (wp_ref' cb (x := x2) (g := (cands below x1 (cands below x0 g))) (chk9 _ (maxn_le below x2 (cands below x1 (cands below x0 g))))) $$ C; iintro C
  iapply (wp_rem (t4_trips _ (maxn_le below x2 (cands below x1 (cands below x0 g)))))
  iapply (wp_rt d L)
  iapply (wp_bd d L)
  unfold k0_part32
  iapply (wp_rt d L)
  iapply (wp_bd d L)
  unfold k0_part33
  iapply (wp_out' a2 h2 a3 h3 b hb b' hb' cb hcb s7 s8 s9 s10 (x := x2) (g := (cands below x1 (cands below x0 g)))) $$ B0; iintro B0
  iapply (wp_back d L) $$ [B0 Y2 S9]
  · isplitl [B0]
    · iexact B0
    isplitl [Y2]
    · iexact Y2
    iexact S9
  iintro F9
  iapply (wp_inw d L rfl) $$ [F8 HO HM]
  · isplitl [F8]
    · iexact F8
    isplitl [HO]
    · iexact HO
    iexact HM
  iintro ⟨X3, B1, S8, HO⟩
  iapply (wp_max a2 h2 a3 h3 b' hb' b hb cb hcb s7 s8 s9 s10 (x := x3) (init := broadcast S16 below)) $$ B1; iintro B1
  iapply (wp_rt d L)
  iapply (wp_bd d L)
  unfold k0_part34
  iapply (wp_comp a2 h2 a3 h3 b' hb' b hb cb hcb s7 s8 s9 s10 (x := x3) (c := cut below x3)) $$ [B1 C]
  · isplitl [B1]
    · iexact B1
    iexact C
  iintro ⟨B1, C⟩
  iapply (wp_as d L (chk9 _ (maxn_le below x3 (cands below x2 (cands below x1 (cands below x0 g))))))
  iapply (wp_rt d L)
  iapply (wp_bd d L)
  unfold k0_part35
  iapply (wp_clear' cb (x := x3) (g := (cands below x2 (cands below x1 (cands below x0 g)))) (chk9 _ (maxn_le below x3 (cands below x2 (cands below x1 (cands below x0 g)))))) $$ C; iintro C
  iapply (wp_rem (t4_trips _ (maxn_le below x3 (cands below x2 (cands below x1 (cands below x0 g))))))
  iapply (wp_bis' a2 h2 a3 h3 b' hb' b hb cb hcb s7 s8 s9 s10 (x := x3) (g := (cands below x2 (cands below x1 (cands below x0 g)))) (chk9 _ (maxn_le below x3 (cands below x2 (cands below x1 (cands below x0 g)))))) $$ C; iintro C
  iapply (wp_ref' cb (x := x3) (g := (cands below x2 (cands below x1 (cands below x0 g)))) (chk9 _ (maxn_le below x3 (cands below x2 (cands below x1 (cands below x0 g)))))) $$ C; iintro C
  iapply (wp_rem (t4_trips _ (maxn_le below x3 (cands below x2 (cands below x1 (cands below x0 g))))))
  iapply (wp_rt d L)
  iapply (wp_bd d L)
  unfold k0_part36
  iapply (wp_rt d L)
  iapply (wp_out' a2 h2 a3 h3 b' hb' b hb cb hcb s7 s8 s9 s10 (x := x3) (g := (cands below x2 (cands below x1 (cands below x0 g))))) $$ B1; iintro B1
  iapply (wp_back d L) $$ [B1 Y3 S10]
  · isplitl [B1]
    · iexact B1
    isplitl [Y3]
    · iexact Y3
    iexact S10
  iintro F10
  iapply (wp_backw d L rfl) $$ [F9 HO HM]
  · isplitl [F9]
    · iexact F9
    isplitl [HO]
    · iexact HO
    iexact HM
  iintro ⟨B0, Y2, S9, HO⟩
  iapply (wp_backw d L rfl) $$ [F10 HO HM]
  · isplitl [F10]
    · iexact F10
    isplitl [HO]
    · iexact HO
    iexact HM
  iintro ⟨B1, Y3, S10, HO⟩
  iapply (wp_rt d L)
  isplitl [X0]
  · iexact X0
  isplitl [X1]
  · iexact X1
  isplitl [X2]
  · iexact X2
  isplitl [X3]
  · iexact X3
  isplitl [Y0]
  · iexists _; iexact Y0
  isplitl [Y1]
  · iexists _; iexact Y1
  isplitl [Y2]
  · iexists _; iexact Y2
  isplitl [Y3]
  · iexists _; iexact Y3
  isplitl [B0]
  · iexists _; iexact B0
  isplitl [B1]
  · iexists _; iexact B1
  isplitl [C]
  · iexists _; iexact C
  isplitl [S7]
  · iexact S7
  isplitl [S8]
  · iexact S8
  isplitl [S9]
  · iexact S9
  isplitl [S10]
  · iexact S10
  iexists _
  iexact HO

end Cert.Proof
-- ==== Proof.Rows.lean ====
/-
  The arrays' rows: what a row holds, and the arrays taken apart into rows and put together again.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The argument and the result as the launch's locations of device `d`. -/
abbrev xLoc (d : Dev nD) : Loc nD τ sig := (SparseCore.T d).loc main_arg0
abbrev oLoc (d : Dev nD) : Loc nD τ sig := (SparseCore.T d).loc main_v0

/-- Both as the body's memrefs. -/
abbrev xV : Memref sig .scVector .hbm S128x32768 .f32 := Memref.whole main_arg0_scv
abbrev oV : Memref sig .scVector .hbm S128x32768 .f32 := Memref.whole main_v0_scv

/-- The index of element `p` of row `r`. -/
def ix (r : Fin 128) (p : S32768.Idx) : S128x32768.Idx := fun | 0 => r | 1 => p 0 | ⟨_ + 2, h⟩ => absurd h (Nat.not_lt.2 (Nat.le_add_left _ _))

/-- Row `r`'s indices. -/
def rowSet (r : Fin 128) : Finset S128x32768.Idx := Finset.univ.filter fun q => (q 0).val = r.val

theorem mem_rowSet (r : Fin 128) (q : S128x32768.Idx) : q ∈ rowSet r ↔ ∃ p, q = ix r p := by
  unfold rowSet
  simp only [Finset.mem_filter, Finset.mem_univ, true_and]
  constructor
  · intro h
    refine ⟨fun | 0 => q 1, ?_⟩
    funext a
    match a with
    | 0 => exact Fin.ext h
    | 1 => rfl
  · rintro ⟨p, rfl⟩; rfl

theorem rows_disjoint : ∀ i ∈ (Finset.univ : Finset (Fin 128)), ∀ j ∈ (Finset.univ : Finset (Fin 128)), i ≠ j → Disjoint (rowSet i) (rowSet j) := by
  intro i _ j _ h
  rw [Finset.disjoint_left]
  intro q h1 h2
  unfold rowSet at h1 h2
  simp only [Finset.mem_filter, Finset.mem_univ, true_and] at h1 h2
  exact h (Fin.ext (h1.symm.trans h2))

theorem rows_cover : (Finset.univ : Finset (Fin 128)).biUnion rowSet = Finset.univ := by
  ext q
  simp only [Finset.mem_biUnion, Finset.mem_univ, true_and, iff_true]
  exact ⟨q 0, by unfold rowSet; simp⟩

/-- What row `r` of contents holds. -/
def rowRead (f : S128x32768.Idx → F .f32) (r : Fin 128) : Row F := fun p => f (ix r p)

theorem unsq (p : S32768.Idx) : Shape.reshapeEquiv squeezes_S1x32768_S32768.numel_eq p = (fun | 0 => ⟨0, Nat.one_pos⟩ | 1 => p 0 | ⟨_ + 2, h⟩ => absurd h (Nat.not_lt.2 (Nat.le_add_left _ _)) : S1x32768.Idx) := by
  refine (Shape.reshapeEquiv_cons_one squeezes_S1x32768_S32768.numel_eq p).trans ?_
  funext a
  match a with
  | 0 => rfl
  | 1 => rfl

theorem emb_row {o : Fin 2 → ℕ} {r : Fin 128} (ho : o = ![r.val, 0]) (h : ∀ a, o a + S1x32768.size a ≤ S128x32768.size a) (p : S32768.Idx) :
    (Rect.unit (s := S128x32768) o S1x32768.size h).emb (Shape.reshapeEquiv squeezes_S1x32768_S32768.numel_eq p) = ix r p := by
  subst ho
  rw [unsq]
  funext a
  match a with
  | 0 => exact Fin.ext (show r.val + 1 * 0 = r.val by omega)
  | 1 => exact Fin.ext (show 0 + 1 * (p 0).val = (p 0).val by omega)

theorem rect_set {o : Fin 2 → ℕ} {r : Fin 128} (ho : o = ![r.val, 0]) (h : ∀ a, o a + S1x32768.size a ≤ S128x32768.size a) :
    (Rect.unit (s := S128x32768) o S1x32768.size h).set = rowSet r := by
  ext q
  rw [mem_rowSet]
  constructor
  · intro hq
    obtain ⟨y, rfl⟩ := LoadRect.exists_idx_of_mem _ hq
    refine ⟨(Shape.reshapeEquiv squeezes_S1x32768_S32768.numel_eq).symm y, ?_⟩
    rw [← emb_row ho h, Equiv.apply_symm_apply]
    rfl
  · rintro ⟨p, rfl⟩
    rw [← emb_row ho h]
    exact LoadRect.idx_mem _ _

theorem row_set {a : Memref sig .scVector .hbm S128x32768 .f32} {o : Fin 2 → ℕ} {r : Fin 128} (ho : o = ![r.val, 0])
    (h : ∀ a, o a + S1x32768.size a ≤ S128x32768.size a) : (rowOf a o h).view.set = a.view.setOn (rowSet r) := by
  rw [← rect_set ho h]
  exact (View.set_reshape _ _).trans (View.set_slice _ _)

variable (d : Dev nD) (L : grid0.Coords)

/-- Row `r` of the argument in the body's spelling. -/
theorem pg_x {o : Fin 2 → ℕ} {r : Fin 128} (ho : o = ![r.val, 0]) (h : ∀ a, o a + S1x32768.size a ≤ S128x32768.size a) (x : Row F) :
    (pg d L (rowOf xV o h) x : sProp 𝕄) = iprop(∃ f : Buf (Elt F) (xLoc d), ⌜rowRead f r = x⌝ ∗ xLoc d ↦[rowSet r]{fullShare} f) := by
  unfold pg
  have e : ∀ f : Buf (Elt F) (xLoc d), (rowOf xV o h).view.read (Elt F) f = rowRead f r := fun f => by
    funext p
    show f ((Rect.unit (s := S128x32768) o S1x32768.size h).emb (Shape.reshapeEquiv squeezes_S1x32768_S32768.numel_eq p)) = f (ix r p)
    rw [emb_row ho h]
  have es : (rowOf xV o h).view.set = rowSet r := (row_set ho h).trans Finset.map_refl
  show iprop(∃ f : Buf (Elt F) (xLoc d), ⌜(rowOf xV o h).view.read (Elt F) f = x⌝ ∗ (xLoc d ↦[(rowOf xV o h).view.set]{fullShare} f)) = _
  rw [es]
  simp only [e]

/-- Row `r` of the result in the body's spelling. -/
theorem pg_o {o : Fin 2 → ℕ} {r : Fin 128} (ho : o = ![r.val, 0]) (h : ∀ a, o a + S1x32768.size a ≤ S128x32768.size a) (x : Row F) :
    (pg d L (rowOf oV o h) x : sProp 𝕄) = iprop(∃ f : Buf (Elt F) (oLoc d), ⌜rowRead f r = x⌝ ∗ oLoc d ↦[rowSet r]{fullShare} f) := by
  unfold pg
  have e : ∀ f : Buf (Elt F) (oLoc d), (rowOf oV o h).view.read (Elt F) f = rowRead f r := fun f => by
    funext p
    show f ((Rect.unit (s := S128x32768) o S1x32768.size h).emb (Shape.reshapeEquiv squeezes_S1x32768_S32768.numel_eq p)) = f (ix r p)
    rw [emb_row ho h]
  have es : (rowOf oV o h).view.set = rowSet r := (row_set ho h).trans Finset.map_refl
  show iprop(∃ f : Buf (Elt F) (oLoc d), ⌜(rowOf oV o h).view.read (Elt F) f = x⌝ ∗ (oLoc d ↦[(rowOf oV o h).view.set]{fullShare} f)) = _
  rw [es]
  simp only [e]

/-- A row of the argument that reads as it did at launch is as it was at launch. -/
theorem x_back (m : Buf (Elt F) (xLoc d)) (r : Fin 128) :
    iprop(∃ f : Buf (Elt F) (xLoc d), ⌜rowRead f r = rowRead m r⌝ ∗ xLoc d ↦[rowSet r]{fullShare} f) ⊢ (xLoc d ↦[rowSet r]{fullShare} m : sProp 𝕄) := by
  iintro ⟨%f, %hf, H⟩
  have e := pointsTo_congr (Ix := HIx 1) (Name := ℕ) (U := UU) (Lvl := ℕ) (ℓ := xLoc d) (I := rowSet r) (q := fullShare) (f := f) (g := m) (fun i hi => by
    obtain ⟨p, rfl⟩ := (mem_rowSet r i).mp hi
    exact congrFun hf p)
  iapply (Entails.of_eq e)
  iexact H

/-! ## The rows of the tasks -/

/-- Row `k` of the task of core `c` and subcore `i`. -/
def rw' (c : Fin 2) (i : Fin 16) (k : Fin 4) : Fin 128 := ⟨8 * i.val + 4 * c.val + k.val, by omega⟩

/-- Every row is one task's. -/
def rowEquiv : Fin 2 × Fin 16 × Fin 4 ≃ Fin 128 where
  toFun x := rw' x.1 x.2.1 x.2.2
  invFun r := (⟨r.val / 4 % 2, by omega⟩, ⟨r.val / 8, by omega⟩, ⟨r.val % 4, by omega⟩)
  left_inv := fun ⟨c, i, k⟩ => by
    refine Prod.ext (Fin.ext ?_) (Prod.ext (Fin.ext ?_) (Fin.ext ?_))
    · show (8 * i.val + 4 * c.val + k.val) / 4 % 2 = c.val; omega
    · show (8 * i.val + 4 * c.val + k.val) / 8 = i.val; omega
    · show (8 * i.val + 4 * c.val + k.val) % 4 = k.val; omega
  right_inv r := Fin.ext (by show 8 * (r.val / 8) + 4 * (r.val / 4 % 2) + r.val % 4 = r.val; omega)

theorem bigSep_rows (Φ : Fin 128 → sProp 𝕄) :
    bigSep Finset.univ Φ = bigSep Finset.univ fun c : Fin 2 => bigSep Finset.univ fun i : Fin 16 => bigSep Finset.univ fun k : Fin 4 => Φ (rw' c i k) := by
  rw [BI.bigSep_univ_equiv rowEquiv, BI.bigSep_univ_prod]
  refine bigSep_congr fun c _ => ?_
  rw [BI.bigSep_univ_prod]
  rfl

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

theorem xPts_rows (f : Buf (Elt F) (xLoc d)) :
    (xLoc d ↦{fullShare} f : sProp 𝕄) = bigSep Finset.univ fun r : Fin 128 => xLoc d ↦[rowSet r]{fullShare} f := by
  rw [← pointsTo_biUnion Finset.univ (ℓ := xLoc d) rowSet rows_disjoint, rows_cover]; try rfl
theorem oPts_rows (f : Buf (Elt F) (oLoc d)) :
    (oLoc d ↦{fullShare} f : sProp 𝕄) = bigSep Finset.univ fun r : Fin 128 => oLoc d ↦[rowSet r]{fullShare} f := by
  rw [← pointsTo_biUnion Finset.univ (ℓ := oLoc d) rowSet rows_disjoint, rows_cover]; try rfl

/-- The result's rows, each reading something of a property, are the result whole, whose rows read so. -/
theorem oRows_join [∀ e, Nonempty (Elt F e)] (R : Fin 128 → Row F → Prop) :
    (bigSep Finset.univ fun r : Fin 128 => iprop(∃ f : Buf (Elt F) (oLoc d), ⌜R r (rowRead f r)⌝ ∗ oLoc d ↦[rowSet r]{fullShare} f))
      ⊢ (iprop(∃ f : Buf (Elt F) (oLoc d), ⌜∀ r, R r (rowRead f r)⌝ ∗ oLoc d ↦{fullShare} f) : sProp 𝕄) := by
  have : Nonempty (Buf (Elt F) (oLoc d)) := ⟨fun _ => Classical.choice inferInstance⟩
  refine (bigSep_exists_pi Finset.univ (fun r (f : Buf (Elt F) (oLoc d)) => iprop(⌜R r (rowRead f r)⌝ ∗ oLoc d ↦[rowSet r]{fullShare} f))).trans ?_
  iintro ⟨%fs, H⟩
  ihave H' := (bigSep_pure_sep Finset.univ (fun r => R r (rowRead (fs r) r)) (fun r => oLoc d ↦[rowSet r]{fullShare} fs r)) $$ H
  icases H' with ⟨%hR, H⟩
  ihave H' := (pointsTo_biUnion_join (ℓ := oLoc d) (q := fullShare) (Val := Elt F) Finset.univ rowSet fs (fs 0) rows_disjoint) $$ H
  icases H' with ⟨%g, %hg, Hg⟩
  rw [rows_cover]
  iexists g
  isplitr
  · ipureintro
    intro r
    have e : rowRead g r = rowRead (fs r) r := by
      funext p
      exact hg r (Finset.mem_univ r) _ ((mem_rowSet r _).mpr ⟨p, rfl⟩)
    rw [e]
    exact hR r (Finset.mem_univ r)
  · iexact Hg

end Cert.Proof
-- ==== Proof.Launch.lean ====
/-
  The launch: every task runs its rows, the arrays go out by rows and come back whole.
-/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F] [Named F]

local notation "𝕄" => MT nD τ sig (HIx 1) (Elt F) ℕ UU ℕ

variable (m : (ℓ : Loc nD τ sig) → Buf (Elt F) ℓ) (ρ : Dev nD → PrngReg)

/-- The scratch buffers as the body's memrefs. -/
abbrev bA : Memref sig .scVector .vmem S32768 .f32 := Memref.whole cc0_scratch0
abbrev bB : Memref sig .scVector .vmem S32768 .f32 := Memref.whole cc0_scratch1
abbrev bC : Memref sig .scVector .vmem S32768 .f32 := Memref.whole cc0_scratch2

/-- What the result's row `r` may hold: the row the body computes from the argument's row, whatever the candidate buffer held. -/
def okRow (d : Dev nD) (r : Fin 128) (y : Row F) : Prop := ∃ g, y = rowOut below (rowRead (m (xLoc d)) r) g

abbrev xR (d : Dev nD) (r : Fin 128) : sProp 𝕄 := xLoc d ↦[rowSet r]{fullShare} m (xLoc d)
abbrev oR (d : Dev nD) (r : Fin 128) : sProp 𝕄 := oLoc d ↦[rowSet r]{fullShare} m (oLoc d)
abbrev oR' (d : Dev nD) (r : Fin 128) : sProp 𝕄 := iprop(∃ f : Buf (Elt F) (oLoc d), ⌜okRow m d r (rowRead f r)⌝ ∗ oLoc d ↦[rowSet r]{fullShare} f)

/-- What a task takes and brings back: its four rows of both arrays. -/
abbrev goT (d : Dev nD) (c : Fin 2) (i : Fin 16) : sProp 𝕄 := bigSep Finset.univ fun k : Fin 4 => iprop(xR m d (rw' c i k) ∗ oR m d (rw' c i k))
abbrev tdT (d : Dev nD) (c : Fin 2) (i : Fin 16) : sProp 𝕄 := bigSep Finset.univ fun k : Fin 4 => iprop(xR m d (rw' c i k) ∗ oR' m d (rw' c i k))

def P : (K (F := F)).Pay (nD := nD) (Val := Elt F) (Name := ℕ) (U := UU) where
  st := fun q d c => match q with | 0 => bigSep Finset.univ fun i : Fin ((K (F := F)).nSub 0) => goT m d (Fin.cast nCore_zero c) (Fin.cast nSub_zero i)
  dn := fun q d c => match q with | 0 => bigSep Finset.univ fun i : Fin ((K (F := F)).nSub 0) => tdT m d (Fin.cast nCore_zero c) (Fin.cast nSub_zero i)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goT m d (Fin.cast nCore_zero c) (Fin.cast nSub_zero i)))
  dn q d c := match q with
    | 0 => (inferInstance : BI.Storable (upEmb : UEmb _ 𝕄) (bigSep Finset.univ fun i : Fin ((K (F := F)).nSub 0) => tdT m d (Fin.cast nCore_zero c) (Fin.cast nSub_zero i)))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

/-! ## The task -/

section Tile

variable (d : Dev nD) (L : grid0.Coords)

theorem bound_zero : grid0.bound 0 = 2 := rfl
theorem bound_one : grid0.bound 1 = 16 := rfl
/-- Row `k` of the task at `L`. -/
abbrev rL (L : grid0.Coords) (k : Fin 4) : Fin 128 := rw' (Fin.cast bound_zero (L 0)) (Fin.cast bound_one (L 1)) k

theorem o1 : k0_off1 L = ![(rL L 0).val, 0] := k0_off1_eq L
theorem o2 : k0_off2 L = ![(rL L 1).val, 0] := k0_off2_eq L
theorem o12 : k0_off12 L = ![(rL L 0).val, 0] := k0_off12_eq L
theorem o23 : k0_off23 L = ![(rL L 1).val, 0] := k0_off23_eq L
theorem o34 : k0_off34 L = ![(rL L 2).val, 0] := k0_off34_eq L
theorem o13 : k0_off13 L 1#32 = ![(rL L 2).val, 0] := k0_off13_eq L 1
theorem o24 : k0_off24 L 2#32 = ![(rL L 3).val, 0] := k0_off24_eq L 1
theorem o45 : k0_off45 L 3#32 = ![(rL L 3).val, 0] := k0_off45_eq L 1

abbrev c0 (d : Dev nD) (c : Fin τ.nSC) (i : Fin τ.nSub) : GSem nD τ sig := (V d c i, .dma cc0_scratch3.sem)
abbrev c1 (d : Dev nD) (c : Fin τ.nSC) (i : Fin τ.nSub) : GSem nD τ sig := (V d c i, .dma cc0_scratch4.sem)
abbrev c2 (d : Dev nD) (c : Fin τ.nSC) (i : Fin τ.nSub) : GSem nD τ sig := (V d c i, .dma cc0_scratch5.sem)
abbrev c3 (d : Dev nD) (c : Fin τ.nSC) (i : Fin τ.nSub) : GSem nD τ sig := (V d c i, .dma cc0_scratch6.sem)

theorem ownSems0_V :
    (ownSems0 (V d (cV L) (jV L)) : sProp 𝕄)
      = iprop(semVal (c0 d (cV L) (jV L)) 0 ∗ semVal (c1 d (cV L) (jV L)) 0 ∗ semVal (c2 d (cV L) (jV L)) 0 ∗ semVal (c3 d (cV L) (jV L)) 0
          ∗ bigSep (((((ownCells (V d (cV L) (jV L))).erase (c0 d (cV L) (jV L))).erase (c1 d (cV L) (jV L))).erase (c2 d (cV L) (jV L))).erase
              (c3 d (cV L) (jV L))) fun g => semVal g 0) := by
  unfold SparseCore.Cfg.ownSems0
  rw [SparseCore.bigSep_erase' ((mem_ownCells (g := c0 d (cV L) (jV L))).mpr ⟨rfl, by
      show (SemLoc.dma cc0_scratch3.sem : SemLoc sig).isScoped .scVector = true; decide⟩),
    SparseCore.bigSep_erase' (Finset.mem_erase.mpr ⟨by simp [c0, c1]; decide, (mem_ownCells (g := c1 d (cV L) (jV L))).mpr ⟨rfl, by
      show (SemLoc.dma cc0_scratch4.sem : SemLoc sig).isScoped .scVector = true; decide⟩⟩),
    SparseCore.bigSep_erase' (Finset.mem_erase.mpr ⟨by simp [c1, c2]; decide, Finset.mem_erase.mpr ⟨by simp [c0, c2]; decide,
      (mem_ownCells (g := c2 d (cV L) (jV L))).mpr ⟨rfl, by show (SemLoc.dma cc0_scratch5.sem : SemLoc sig).isScoped .scVector = true; decide⟩⟩⟩),
    SparseCore.bigSep_erase' (Finset.mem_erase.mpr ⟨by simp [c2, c3]; decide, Finset.mem_erase.mpr ⟨by simp [c1, c3]; decide,
      Finset.mem_erase.mpr ⟨by simp [c0, c3]; decide, (mem_ownCells (g := c3 d (cV L) (jV L))).mpr ⟨rfl, by
        show (SemLoc.dma cc0_scratch6.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- A scratch buffer of some contents, in the launch's spelling and in the body's. -/
theorem in_A : (iprop(∃ f, (V d (cV L) (jV L)).loc cc0_scratch0 ↦{fullShare} f) : sProp 𝕄) ⊢ iprop(∃ z, pt d L bA z) := by
  iintro ⟨%f, H⟩
  iexists (bA.view.read (Elt F) f)
  unfold pt
  iexists f
  isplitr
  · ipureintro; rfl
  · iapply (Entails.of_eq (show ((V d (cV L) (jV L)).loc cc0_scratch0 ↦{fullShare} f : sProp 𝕄) = (bA.view.loc (tv d L) ↦[bA.view.set]{fullShare} f) by
      rw [show bA.view.set = Finset.univ from View.set_whole _]))
    iexact H

theorem out_A : (iprop(∃ z, pt d L bA z) : sProp 𝕄) ⊢ iprop(∃ f, (V d (cV L) (jV L)).loc cc0_scratch0 ↦{fullShare} f) := by
  unfold pt
  iintro ⟨%z, %f, -, H⟩
  iexists f
  iapply (Entails.of_eq (show (bA.view.loc (tv d L) ↦[bA.view.set]{fullShare} f : sProp 𝕄) = ((V d (cV L) (jV L)).loc cc0_scratch0 ↦{fullShare} f) by
      rw [show bA.view.set = Finset.univ from View.set_whole _]))
  iexact H

theorem in_B : (iprop(∃ f, (V d (cV L) (jV L)).loc cc0_scratch1 ↦{fullShare} f) : sProp 𝕄) ⊢ iprop(∃ z, pt d L bB z) := by
  iintro ⟨%f, H⟩
  iexists (bB.view.read (Elt F) f)
  unfold pt
  iexists f
  isplitr
  · ipureintro; rfl
  · iapply (Entails.of_eq (show ((V d (cV L) (jV L)).loc cc0_scratch1 ↦{fullShare} f : sProp 𝕄) = (bB.view.loc (tv d L) ↦[bB.view.set]{fullShare} f) by
      rw [show bB.view.set = Finset.univ from View.set_whole _]))
    iexact H

theorem out_B : (iprop(∃ z, pt d L bB z) : sProp 𝕄) ⊢ iprop(∃ f, (V d (cV L) (jV L)).loc cc0_scratch1 ↦{fullShare} f) := by
  unfold pt
  iintro ⟨%z, %f, -, H⟩
  iexists f
  iapply (Entails.of_eq (show (bB.view.loc (tv d L) ↦[bB.view.set]{fullShare} f : sProp 𝕄) = ((V d (cV L) (jV L)).loc cc0_scratch1 ↦{fullShare} f) by
      rw [show bB.view.set = Finset.univ from View.set_whole _]))
  iexact H

theorem in_C : (iprop(∃ f, (V d (cV L) (jV L)).loc cc0_scratch2 ↦{fullShare} f) : sProp 𝕄) ⊢ iprop(∃ z, pt d L bC z) := by
  iintro ⟨%f, H⟩
  iexists (bC.view.read (Elt F) f)
  unfold pt
  iexists f
  isplitr
  · ipureintro; rfl
  · iapply (Entails.of_eq (show ((V d (cV L) (jV L)).loc cc0_scratch2 ↦{fullShare} f : sProp 𝕄) = (bC.view.loc (tv d L) ↦[bC.view.set]{fullShare} f) by
      rw [show bC.view.set = Finset.univ from View.set_whole _]))
    iexact H

theorem out_C : (iprop(∃ z, pt d L bC z) : sProp 𝕄) ⊢ iprop(∃ f, (V d (cV L) (jV L)).loc cc0_scratch2 ↦{fullShare} f) := by
  unfold pt
  iintro ⟨%z, %f, -, H⟩
  iexists f
  iapply (Entails.of_eq (show (bC.view.loc (tv d L) ↦[bC.view.set]{fullShare} f : sProp 𝕄) = ((V d (cV L) (jV L)).loc cc0_scratch2 ↦{fullShare} f) by
      rw [show bC.view.set = Finset.univ from View.set_whole _]))
  iexact H

/-- A row of the argument or the result into the body's spelling. -/
theorem x_in {o : Fin 2 → ℕ} {r : Fin 128} (ho : o = ![r.val, 0]) (h : ∀ a, o a + S1x32768.size a ≤ S128x32768.size a) :
    xR m d r ⊢ (pg d L (rowOf xV o h) (rowRead (m (xLoc d)) r) : sProp 𝕄) := by
  rw [pg_x d L ho h]
  iintro H
  iexists _
  isplitr
  · ipureintro; rfl
  · iexact H

theorem x_out {o : Fin 2 → ℕ} {r : Fin 128} (ho : o = ![r.val, 0]) (h : ∀ a, o a + S1x32768.size a ≤ S128x32768.size a) :
    (pg d L (rowOf xV o h) (rowRead (m (xLoc d)) r) : sProp 𝕄) ⊢ xR m d r := by
  rw [pg_x d L ho h]
  exact x_back d (m (xLoc d)) r

theorem o_in {o : Fin 2 → ℕ} {r : Fin 128} (ho : o = ![r.val, 0]) (h : ∀ a, o a + S1x32768.size a ≤ S128x32768.size a) :
    oR m d r ⊢ (pg d L (rowOf oV o h) (rowRead (m (oLoc d)) r) : sProp 𝕄) := by
  rw [pg_o d L ho h]
  iintro H
  iexists _
  isplitr
  · ipureintro; rfl
  · iexact H

theorem o_out {o : Fin 2 → ℕ} {r : Fin 128} (ho : o = ![r.val, 0]) (h : ∀ a, o a + S1x32768.size a ≤ S128x32768.size a) :
    (iprop(∃ g, pg d L (rowOf oV o h) (rowOut below (rowRead (m (xLoc d)) r) g)) : sProp 𝕄) ⊢ oR' m d r := by
  iintro ⟨%g, H⟩
  ihave H' := (Entails.of_eq (pg_o d L ho h _)) $$ H
  icases H' with ⟨%f, %hf, H⟩
  iexists f
  isplitr
  · ipureintro; exact ⟨g, hf⟩
  · iexact H

theorem goT_four (c : Fin 2) (i : Fin 16) : goT m d c i = iprop((xR m d (rw' c i 0) ∗ oR m d (rw' c i 0)) ∗ (xR m d (rw' c i 1) ∗ oR m d (rw' c i 1))
    ∗ (xR m d (rw' c i 2) ∗ oR m d (rw' c i 2)) ∗ (xR m d (rw' c i 3) ∗ oR m d (rw' c i 3))) := bigSep_four _
theorem tdT_four (c : Fin 2) (i : Fin 16) : tdT m d c i = iprop((xR m d (rw' c i 0) ∗ oR' m d (rw' c i 0)) ∗ (xR m d (rw' c i 1) ∗ oR' m d (rw' c i 1))
    ∗ (xR m d (rw' c i 2) ∗ oR' m d (rw' c i 2)) ∗ (xR m d (rw' c i 3) ∗ oR' m d (rw' c i 3))) := bigSep_four _

/-- The task at `L`, from its rows and its subcore's own to the same with the rows computed. -/
theorem tile_body (hF : (K (F := F)).Facts) (O : CellTallies nD τ sig (HIx 1)) (W : Waits sig (HIx 1)) (hO : ∀ g, O g none = 0) :
    iprop(levAts (K (F := F)).L (K (F := F)).lev ∗ emp
        ∗ goT m d (Fin.cast bound_zero (L 0)) (Fin.cast bound_one (L 1))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) oV (Memref.isWhole_whole _) bA (Memref.isWhole_whole _) bB (Memref.isWhole_whole _)
            bC (Memref.isWhole_whole _) cc0_scratch3 cc0_scratch4 cc0_scratch5 cc0_scratch6)
          fun _ => iprop(tdT m d (Fin.cast bound_zero (L 0)) (Fin.cast bound_one (L 1))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V,
    goT_four, tdT_four]
  iintro ⟨#Hlv, -, ⟨⟨X0, Y0⟩, ⟨X1, Y1⟩, ⟨X2, Y2⟩, ⟨X3, Y3⟩⟩, ⟨Ha, Hb, Hc, Hbufs⟩, ⟨S0, S1, S2, S3, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave Ha' := (in_A (F := F) d L) $$ Ha
  ihave Hb' := (in_B (F := F) d L) $$ Hb
  ihave Hc' := (in_C (F := F) d L) $$ Hc
  icases Ha' with ⟨%za, Ha⟩
  icases Hb' with ⟨%zb, Hb⟩
  icases Hc' with ⟨%zc, Hc⟩
  ihave X0 := (x_in m d L (o1 L) (k0_off1_inb L)) $$ X0
  ihave X1 := (x_in m d L (o2 L) (k0_off2_inb L)) $$ X1
  ihave X2 := (x_in m d L (o13 L) (k0_off13_inb L 1)) $$ X2
  ihave X3 := (x_in m d L (o24 L) (k0_off24_inb L 1)) $$ X3
  ihave Y0 := (o_in m d L (o12 L) (k0_off12_inb L)) $$ Y0
  ihave Y1 := (o_in m d L (o23 L) (k0_off23_inb L)) $$ Y1
  ihave Y2 := (o_in m d L (o34 L) (k0_off34_inb L)) $$ Y2
  ihave Y3 := (o_in m d L (o45 L) (k0_off45_inb L 1)) $$ Y3
  have hb := fun za zb zc => body (F := F) (d := d) (L := L) (O := O) (W := W) (x0 := rowRead (m (xLoc d)) (rL L 0)) (x1 := rowRead (m (xLoc d)) (rL L 1))
    (x2 := rowRead (m (xLoc d)) (rL L 2)) (x3 := rowRead (m (xLoc d)) (rL L 3)) (y0 := rowRead (m (oLoc d)) (rL L 0)) (y1 := rowRead (m (oLoc d)) (rL L 1))
    (y2 := rowRead (m (oLoc d)) (rL L 2)) (y3 := rowRead (m (oLoc d)) (rL L 3)) (z0 := za) (z1 := zb) (g := zc)
    xV (Memref.isWhole_whole _) oV (Memref.isWhole_whole _) bA (Memref.isWhole_whole _) bB (Memref.isWhole_whole _)
    bC (Memref.isWhole_whole _) cc0_scratch3 cc0_scratch4 cc0_scratch5 cc0_scratch6
  unfold WP at hb
  ihave HW := (hb za zb zc) $$ [X0 X1 X2 X3 Y0 Y1 Y2 Y3 Ha Hb Hc S0 S1 S2 S3 HO Hmw]
  · isplitl [X0]; · iexact X0
    isplitl [X1]; · iexact X1
    isplitl [X2]; · iexact X2
    isplitl [X3]; · iexact X3
    isplitl [Y0]; · iexact Y0
    isplitl [Y1]; · iexact Y1
    isplitl [Y2]; · iexact Y2
    isplitl [Y3]; · iexact Y3
    isplitl [Ha]; · iexact Ha
    isplitl [Hb]; · iexact Hb
    isplitl [Hc]; · iexact Hc
    isplitl [S0]; · iexact S0
    isplitl [S1]; · iexact S1
    isplitl [S2]; · iexact S2
    isplitl [S3]; · iexact S3
    isplitl [HO]; · iexact HO
    iexact Hmw
  iapply (wp_wand frame (wpE (defs₀ (F := F)) 𝒱₀ (V d (cV L) (jV L)) none) Set.univ) $$ HW
  iintro %_ ⟨X0, X1, X2, X3, Y0, Y1, Y2, Y3, Ha, Hb, Hc, S0, S1, S2, S3, ⟨%W', HO⟩⟩
  ihave X0 := (x_out m d L (o1 L) (k0_off1_inb L)) $$ X0
  ihave X1 := (x_out m d L (o2 L) (k0_off2_inb L)) $$ X1
  ihave X2 := (x_out m d L (o13 L) (k0_off13_inb L 1)) $$ X2
  ihave X3 := (x_out m d L (o24 L) (k0_off24_inb L 1)) $$ X3
  ihave Y0 := (o_out m d L (o12 L) (k0_off12_inb L)) $$ Y0
  ihave Y1 := (o_out m d L (o23 L) (k0_off23_inb L)) $$ Y1
  ihave Y2 := (o_out m d L (o34 L) (k0_off34_inb L)) $$ Y2
  ihave Y3 := (o_out m d L (o45 L) (k0_off45_inb L 1)) $$ Y3
  ihave Ha := (out_A (F := F) d L) $$ Ha
  ihave Hb := (out_B (F := F) d L) $$ Hb
  ihave Hc := (out_C (F := F) d L) $$ Hc
  isplitl [X0 X1 X2 X3 Y0 Y1 Y2 Y3]
  · isplitl [X0 Y0]; · isplitl [X0] <;> iassumption
    isplitl [X1 Y1]; · isplitl [X1] <;> iassumption
    isplitl [X2 Y2]; · isplitl [X2] <;> iassumption
    isplitl [X3] <;> iassumption
  isplitl [Ha Hb Hc Hbufs]
  · isplitl [Ha]; · iexact Ha
    isplitl [Hb]; · iexact Hb
    isplitl [Hc]; · iexact Hc
    iexact Hbufs
  isplitl [S0 S1 S2 S3 Hsems]
  · isplitl [S0]; · iexact S0
    isplitl [S1]; · iexact S1
    isplitl [S2]; · iexact S2
    isplitl [S3]; · iexact S3
    iexact Hsems
  iexists W'; isplitr
  swap; · iexact HO
  ipureintro; intro p _
  rcases p.2 with _ | q
  · exact .inr (.inl rfl)
  · exact .inr (.inr (congrArg some (Subsingleton.elim q 0)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) bA (Memref.isWhole_whole _) bB (Memref.isWhole_whole _)
            bC (Memref.isWhole_whole _) cc0_scratch3 cc0_scratch4 cc0_scratch5 cc0_scratch6) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

/-! ## The arrays go out and come back -/

theorem vecSplit : (K (F := F)).VecSplit' (P m) 0 := by
  intro d c
  show (bigSep Finset.univ fun i : Fin ((K (F := F)).nSub 0) => goT m d (Fin.cast nCore_zero c) (Fin.cast nSub_zero i)) ⊢ |={Set.univ}=> iprop(
    (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
        -∗ bigSep Finset.univ fun i : Fin ((K (F := F)).nSub 0) => tdT m d (Fin.cast nCore_zero c) (Fin.cast nSub_zero i)))
  iintro H; imodintro
  isplitl [H]; · iexact H
  iintro H; iexact H

theorem bigSep_cores (Φ : Fin 2 → Fin 16 → sProp 𝕄) :
    (bigSep Finset.univ fun c : Fin ((K (F := F)).nCore 0) => bigSep Finset.univ fun i : Fin ((K (F := F)).nSub 0) => Φ (Fin.cast nCore_zero c) (Fin.cast nSub_zero i))
      = bigSep Finset.univ fun c => bigSep Finset.univ fun i => Φ c i := rfl

theorem st0_eq (d : Dev nD) :
    (bigSep Finset.univ fun c : Fin ((K (F := F)).nCore 0) => (P m).st 0 d c) = (iprop((xLoc d ↦{fullShare} m (xLoc d)) ∗ oLoc d ↦{fullShare} m (oLoc d)) : sProp 𝕄) := by
  rw [xPts_rows, oPts_rows, ← bigSep_sep', bigSep_rows]
  exact bigSep_cores (fun c i => goT m d c i)

theorem dn0_le [∀ e, Nonempty (Elt F e)] (d : Dev nD) :
    (bigSep Finset.univ fun c : Fin ((K (F := F)).nCore 0) => (P m).dn 0 d c)
      ⊢ (iprop((xLoc d ↦{fullShare} m (xLoc d)) ∗ ∃ f : Buf (Elt F) (oLoc d), ⌜∀ r, okRow m d r (rowRead f r)⌝ ∗ oLoc d ↦{fullShare} f) : sProp 𝕄) := by
  have e : (bigSep Finset.univ fun c : Fin ((K (F := F)).nCore 0) => (P m).dn 0 d c) = (bigSep Finset.univ fun r : Fin 128 => iprop(xR m d r ∗ oR' m d r) : sProp 𝕄) := by
    rw [bigSep_rows]
    exact bigSep_cores (fun c i => tdT m d c i)
  rw [e, bigSep_sep', xPts_rows]
  iintro ⟨Hx, Ho⟩
  isplitl [Hx]; · iexact Hx
  iapply (oRows_join d (okRow m d)); iexact Ho

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

abbrev FIN (d : Dev nD) : sProp 𝕄 :=
  iprop((xLoc d ↦{fullShare} m (xLoc d)) ∗ ∃ f : Buf (Elt F) (oLoc d), ⌜∀ r, okRow m d r (rowRead f r)⌝ ∗ oLoc d ↦{fullShare} f)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (dn0_le m d) $$ Hdn
  imodintro
  isplitl [Hst]; · iexact Hst
  isplitl [Hdn']; · iexact Hdn'
  isplitl [Hb] <;> iassumption

def fq (d : Dev nD) (s' : Phys nD τ sig (Elt F)) : Prop := s'.mem.mem (xLoc d) = m (xLoc d) ∧ ∀ r, okRow m d r (rowRead (s'.mem.mem (oLoc d)) r)

theorem hfin (d : Dev nD) (s' : Phys nD τ sig (Elt F)) : iprop(FIN m d ∗ SI s') ⊢ (⌜fq m d s'⌝ : sProp 𝕄) := by
  iintro ⟨⟨Hx, ⟨%f, %hf, Ho⟩⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := f)) $$ [HSI Ho]
  · isplitl [HSI] <;> iassumption
  icases H with %ho
  ipureintro
  refine ⟨funext fun i => hx i (Finset.mem_univ i), ?_⟩
  rw [show s'.mem.mem (oLoc d) = f from funext fun i => ho i (Finset.mem_univ i)]
  exact hf

/-! ## The run -/

def QC : PUnit × MemSt nD τ sig (Elt F) → Prop := fun r =>
  (∀ c : Dev nD, r.2.mem (xLoc c) = m (xLoc c) ∧ ∀ p, okRow m c p (rowRead (r.2.mem (oLoc c)) p)) ∧ r.2.sem = fun _ => 0

/-- Every run ends with the argument kept, the semaphores at zero, and every row of the result the body's of the argument's row. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Frames.lean ====
/-
  The frames: every program runs, keeps its argument and ends with its semaphores at zero.
-/
module

public import proofs.«01_k».proof.Proof.Launch
public import proofs.«01_k».proof.Proof.Gen.Kernel
public import proofs.«01_k».proof.Proof.Gen.ReferenceIdeal.Run
public import proofs.«01_k».proof.Proof.Gen.Pre_apart

@[expose] public section

noncomputable section

namespace Cert.Proof

open Idealize.ShloMosaic Idealize.SL.Sem

/-- At the bit patterns a name stands for the pattern it was printed over. -/
abbrev plain : Named Bits := ⟨fun _ _ {φ} b => Scalar.ofBits φ b⟩

set_option maxHeartbeats 8000000 in
theorem kernel_run (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (@QC Bits _ plain m) :=
  @run_main Bits _ plain m ρ _

theorem frame_p : Cert.quiescent_Kernel := fun m ρ _ =>
  (θ_run Cert.Kernel.defs _ _).mono (fun _ h => ⟨fun c => (h.1 c).1, h.2⟩) (kernel_run m ρ)

theorem frame_pi : Cert.quiescent_KernelIdeal := fun m ρ _ =>
  (θ_run Cert.KernelIdeal.defs _ _).mono (fun _ h => ⟨fun c => (h.1 c).1, h.2⟩) (run_main (F := Ideal) m ρ)

theorem frame_pi_pre : Cert.quiescent_KernelIdeal_pre_apart := fun m ρ _ => frame_pi m ρ trivial

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_apart := fun m ρ _ => frame_ri m ρ trivial

theorem preserves : Cert.preserves_Kernel_KernelIdeal :=
  IdealRules.named_const.statement Cert.KernelIdeal.κ "below_all" .f32 0xFF61B1E6#32 ⊥ rfl

end Cert.Proof

end
-- ==== Proof.RefOps.lean ====
/-
  Host operations read at an index, at sizes left open: a running sum along the rows of a matrix, an entry taken
  from each row at that row's own position, a stable sort along the rows, and the number of ones of a row of bits.
-/
module

public import Idealize.ShloMosaic.PureOps
public import Idealize.ShloMosaic.Lib.ValueIdxCore
public import Idealize.ShloMosaic.Lib.SortFacts
public import Idealize.ShloMosaic.Lib.IndicatorCount
public import Mathlib.Algebra.BigOperators.Fin
public import Mathlib.Data.Real.Basic
public import Mathlib.Tactic.Ring

@[expose] public section

noncomputable section

open scoped BigOperators

namespace Cert.Proof

open Idealize.ShloMosaic Idealize.ShloMosaic.ValueIdx

/-! ## The running sum -/

/-- A left fold of additions is the start plus the sum of the list. -/
theorem foldl_plus {M ι : Type} [AddCommMonoid M] (g : ι → M) (l : List ι) (v : M) :
    l.foldl (fun r n => r + g n) v = v + (l.map g).sum := by
  induction l generalizing v with
  | nil => simp
  | cons a l ih => rw [List.foldl_cons, ih, List.map_cons, List.sum_cons, add_assoc]

/-- A one-row shape has as many elements as it has columns. -/
theorem numel_row (N : Nat) : (⟨2, ![1, N]⟩ : Shape).numel = N := (Fin.prod_univ_two (![1, N] : Fin 2 → Nat)).trans (Nat.one_mul N)

/-- Position `n` of a one-row shape is its index `(0, n)`. -/
theorem symm_row {N : Nat} (n : Fin (⟨2, ![1, N]⟩ : Shape).numel) :
    (⟨2, ![1, N]⟩ : Shape).rowMajor.symm n = ix2 (0 : Fin 1) (n.cast (numel_row N)) := by
  rw [Equiv.symm_apply_eq]
  refine Fin.ext ?_
  rw [Shape.rowMajor_val_two]
  show n.val = 0 * N + n.val
  omega

/-- A window that ends at `j` and reaches past the front of the row: the sum of what it holds of the row. -/
theorem sum_front {M : Type} [AddCommMonoid M] {N Nm1 : Nat} (hN : Nm1 + 1 = N) (f : Nat → M) (j : Fin N) :
    (∑ n : Fin N, if Nm1 ≤ j.val + n.val then f (j.val + n.val - Nm1) else 0) = ∑ i : Fin N, if i ≤ j then f i.val else 0 := by
  have hj := j.isLt
  rw [← Finset.sum_filter, ← Finset.sum_filter]
  refine Finset.sum_bij' (fun n hn => (⟨j.val + n.val - Nm1, by have := n.isLt; omega⟩ : Fin N))
    (fun i hi => (⟨i.val + Nm1 - j.val, by
      have h1 := (Finset.mem_filter.1 hi).2
      have h2 : i.val ≤ j.val := h1
      omega⟩ : Fin N)) ?_ ?_ ?_ ?_ ?_
  · intro n hn
    have := n.isLt
    refine Finset.mem_filter.2 ⟨Finset.mem_univ _, ?_⟩
    show j.val + n.val - Nm1 ≤ j.val
    omega
  · intro i hi
    have h2 : i.val ≤ j.val := (Finset.mem_filter.1 hi).2
    refine Finset.mem_filter.2 ⟨Finset.mem_univ _, ?_⟩
    show Nm1 ≤ j.val + (i.val + Nm1 - j.val)
    omega
  · intro n hn
    have h2 := (Finset.mem_filter.1 hn).2
    refine Fin.ext ?_
    show j.val + n.val - Nm1 + Nm1 - j.val = n.val
    omega
  · intro i hi
    have h2 : i.val ≤ j.val := (Finset.mem_filter.1 hi).2
    refine Fin.ext ?_
    show j.val + (i.val + Nm1 - j.val) - Nm1 = i.val
    omega
  · intro n hn
    rfl

/-- The running sum along the rows of a matrix, as a window of a whole row padded in front: entry `(r, j)` is the sum
    of the entries of row `r` up to and including `j`. -/
theorem cumsum_read {M : Type} [AddCommMonoid M] {R N Nm1 : Nat} (hN : Nm1 + 1 = N) (x : (⟨2, ![R, N]⟩ : Shape).Idx → M)
    (init : (⟨0, ![]⟩ : Shape).Idx → M) (hinit : ∀ q, init q = 0)
    (h : (⟨2, ![R, N]⟩ : Shape).ReduceWindows (![1, N] : Fin 2 → Nat) ![1, 1] ![0, Nm1] ![0, 0] ⟨2, ![R, N]⟩)
    (hu : 0 < (⟨0, ![]⟩ : Shape).numel) (r : Fin R) (j : Fin N) :
    Host.reduceWindow (· + ·) ![1, N] ![1, 1] ![0, Nm1] ![0, 0] x init h hu (ix2 r j)
      = ∑ i : Fin N, if i ≤ j then x (ix2 r i) else 0 := by
  have hj := j.isLt
  have hr := r.isLt
  have key : ∀ n : Fin (⟨2, ![1, N]⟩ : Shape).numel,
      (if hin : ∀ a : Fin 2, (![0, Nm1] : Fin 2 → Nat) a ≤ ((ix2 r j : (⟨2, ![R, N]⟩ : Shape).Idx) (a.cast h.1.symm)).val * (![1, 1] : Fin 2 → Nat) a + ((⟨2, ![1, N]⟩ : Shape).rowMajor.symm n a).val
          ∧ ((ix2 r j : (⟨2, ![R, N]⟩ : Shape).Idx) (a.cast h.1.symm)).val * (![1, 1] : Fin 2 → Nat) a + ((⟨2, ![1, N]⟩ : Shape).rowMajor.symm n a).val - (![0, Nm1] : Fin 2 → Nat) a < (⟨2, ![R, N]⟩ : Shape).size a
        then x (fun a => ⟨((ix2 r j : (⟨2, ![R, N]⟩ : Shape).Idx) (a.cast h.1.symm)).val * (![1, 1] : Fin 2 → Nat) a + ((⟨2, ![1, N]⟩ : Shape).rowMajor.symm n a).val - (![0, Nm1] : Fin 2 → Nat) a, (hin a).2⟩)
        else 0)
      = if Nm1 ≤ j.val + n.val then (fun k => if hk : k < N then x (ix2 r ⟨k, hk⟩) else 0) (j.val + n.val - Nm1) else 0 := by
    intro n
    have hw0 : ((⟨2, ![1, N]⟩ : Shape).rowMajor.symm n 0).val = 0 := by rw [symm_row]; rfl
    have hw1 : ((⟨2, ![1, N]⟩ : Shape).rowMajor.symm n 1).val = n.val := by rw [symm_row]; rfl
    have hn : n.val < N := (n.cast (numel_row N)).isLt
    split
    · next hin =>
      have h1 := hin 1
      change Nm1 ≤ j.val * 1 + ((⟨2, ![1, N]⟩ : Shape).rowMajor.symm n 1).val
        ∧ j.val * 1 + ((⟨2, ![1, N]⟩ : Shape).rowMajor.symm n 1).val - Nm1 < N at h1
      rw [hw1] at h1
      rw [if_pos (by omega)]
      dsimp only
      rw [dif_pos (show j.val + n.val - Nm1 < N by omega)]
      refine congrArg x (funext fun a => Fin.ext ?_)
      match a with
      | ⟨0, _⟩ =>
        show r.val * 1 + ((⟨2, ![1, N]⟩ : Shape).rowMajor.symm n 0).val - 0 = r.val
        rw [hw0]
        omega
      | ⟨1, _⟩ =>
        show j.val * 1 + ((⟨2, ![1, N]⟩ : Shape).rowMajor.symm n 1).val - Nm1 = j.val + n.val - Nm1
        rw [hw1, Nat.mul_one]
    · next hin =>
      rw [if_neg fun hle => hin fun a => by
        match a with
        | ⟨0, _⟩ =>
          show 0 ≤ r.val * 1 + ((⟨2, ![1, N]⟩ : Shape).rowMajor.symm n 0).val
            ∧ r.val * 1 + ((⟨2, ![1, N]⟩ : Shape).rowMajor.symm n 0).val - 0 < R
          rw [hw0]
          omega
        | ⟨1, _⟩ =>
          show Nm1 ≤ j.val * 1 + ((⟨2, ![1, N]⟩ : Shape).rowMajor.symm n 1).val
            ∧ j.val * 1 + ((⟨2, ![1, N]⟩ : Shape).rowMajor.symm n 1).val - Nm1 < N
          rw [hw1]
          omega]
  unfold Host.reduceWindow
  dsimp only
  refine (foldl_plus _ _ _).trans ?_
  rw [hinit, zero_add, ← Fin.sum_univ_def]
  refine (Finset.sum_congr (s₁ := Finset.univ) (s₂ := Finset.univ) rfl fun n _ => key n).trans ?_
  refine (Equiv.sum_comp (finCongr (numel_row N)) (fun n : Fin N => if Nm1 ≤ j.val + n.val then
    (fun k => if hk : k < N then x (ix2 r ⟨k, hk⟩) else 0) (j.val + n.val - Nm1) else 0)).trans ?_
  refine (sum_front hN (fun k => if hk : k < N then x (ix2 r ⟨k, hk⟩) else 0) j).trans ?_
  refine Finset.sum_congr rfl fun i _ => ?_
  rw [dif_pos i.isLt]

/-! ## One entry of each row -/

section Take
variable {α : Type}

/-- The dimension numbers that take from each row of an `[B, N]` matrix the entry at that row's own position. -/
abbrev takeColDims (B N : Nat)
    (wf : GatherDims.WF ⟨2, ![B, N]⟩ ⟨3, ![B, 1, 1]⟩ ⟨2, ![B, 1]⟩ [] [1] [0] [1] [0] 2 ![1, 1]) :
    GatherDims ⟨2, ![B, N]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- What they take from row `b`: the entry at the position given for `b`, read signed and kept inside the row. -/
theorem gather_take_col {B N w : Nat} (hN : 0 < N)
    (wf : GatherDims.WF ⟨2, ![B, N]⟩ ⟨3, ![B, 1, 1]⟩ ⟨2, ![B, 1]⟩ [] [1] [0] [1] [0] 2 ![1, 1])
    (x : (⟨2, ![B, N]⟩ : Shape).Idx → α) (idx : IVec ⟨3, ![B, 1, 1]⟩ w) (b : Fin B) :
    Host.gather (takeColDims B N wf) x idx (ix2 b (0 : Fin 1))
      = x (ix2 b ⟨min (idx (ix3 b (0 : Fin 1) (0 : Fin 1))).toInt.toNat (N - 1), by omega⟩) := by
  unfold Host.gather
  congr 1
  funext a
  refine Fin.ext ?_
  show (takeColDims B N wf).start (ix2 b (0 : Fin 1)) idx a + (takeColDims B N wf).batchCoord (ix2 b (0 : Fin 1)) a
      + (takeColDims B N wf).offCoord (ix2 b (0 : Fin 1)) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeColDims B N wf).startIndexMap from List.mem_singleton.mpr rfl)]
    have hsi : (takeColDims B N wf).siIdx (ix2 b (0 : Fin 1)) ⟨List.idxOf (1 : Fin 2) (takeColDims B N wf).startIndexMap,
        List.idxOf_lt_length_iff.2 (List.mem_singleton.mpr rfl)⟩ = ix3 b (0 : Fin 1) (0 : Fin 1) := by
      funext b'; refine Fin.ext ?_
      match b' with
      | ⟨0, _⟩ => rfl
      | ⟨1, _⟩ => rfl
      | ⟨2, _⟩ => rfl
    rw [hsi]
    rfl

end Take

/-! ## A sort along the rows -/

/-- A matrix sorted along its rows reads, in row `r`, that row's entries in the order of one permutation of the
    positions. -/
theorem sort_read {α : Type} {R N : Nat} (cmp : α → α → BitVec 1) (x : (⟨2, ![R, N]⟩ : Shape).Idx → α) (r : Fin R) (k : Fin N) :
    Host.sort ⟨2, ![R, N]⟩ 1 cmp x (ix2 r k)
      = x (ix2 r (sortedFrom (fun a b : Fin N => cmp (x (ix2 r a)) (x (ix2 r b)) == 1#1) k)) := by
  have hal : ∀ a : Fin N, Shape.Idx.along (ix2 r k : (⟨2, ![R, N]⟩ : Shape).Idx) (1 : Fin 2) a = ix2 r a := by
    intro a
    funext d
    match d with
    | ⟨0, _⟩ => rfl
    | ⟨1, _⟩ => rfl
  unfold Host.sort
  rw [dif_pos (show 1 < (⟨2, ![R, N]⟩ : Shape).rank from Nat.one_lt_two)]
  show x (Shape.Idx.along (ix2 r k : (⟨2, ![R, N]⟩ : Shape).Idx) (1 : Fin 2)
    (sortedFrom (fun a b : Fin N => cmp (x (Shape.Idx.along (ix2 r k : (⟨2, ![R, N]⟩ : Shape).Idx) (1 : Fin 2) a))
      (x (Shape.Idx.along (ix2 r k : (⟨2, ![R, N]⟩ : Shape).Idx) (1 : Fin 2) b)) == 1#1) k)) = _
  have hB : (fun a b : Fin N => cmp (x (Shape.Idx.along (ix2 r k : (⟨2, ![R, N]⟩ : Shape).Idx) (1 : Fin 2) a))
      (x (Shape.Idx.along (ix2 r k : (⟨2, ![R, N]⟩ : Shape).Idx) (1 : Fin 2) b)) == 1#1)
      = fun a b : Fin N => cmp (x (ix2 r a)) (x (ix2 r b)) == 1#1 :=
    funext fun a => funext fun b => congrArg₂ (fun u v => cmp (x u) (x v) == 1#1) (hal a) (hal b)
  exact congrArg x ((hal _).trans (congrArg (fun B => ix2 r (sortedFrom B k)) hB))

/-- Positions sorted by a strict order on what they hold hold it in that order. -/
theorem sorted_mono {n : Nat} (v : Fin n → ℝ) (B : Fin n → Fin n → Bool) (hB : ∀ a b, B a b = true ↔ v a < v b) :
    Monotone fun k => v (sortedFrom B k) := by
  intro i j hij
  rcases eq_or_lt_of_le hij with rfl | hlt
  · exact le_refl _
  have hf : ∀ a b, B a b = false ↔ v b ≤ v a := by
    intro a b
    rw [← Bool.not_eq_true, hB, not_lt]
  have h := sortedFrom_noInversion B B (fun a b h => (hf b a).2 (le_of_lt ((hB a b).1 h))) (fun _ _ h => h)
    (fun a b c h1 h2 => (hf a c).2 (le_trans ((hf b c).1 h2) ((hf a b).1 h1))) i j hlt
  exact (hf _ _).1 h

/-! ## The ones of a row of bits -/

/-- The sum along each row of bits widened to words is the number of its ones, as a word. -/
theorem count_read {R N : Nat} (p : IVec ⟨2, ![R, N]⟩ 1) (init : IVec ⟨0, ![]⟩ 32) (hinit : ∀ q, init q = 0#32)
    (h' : (⟨2, ![R, N]⟩ : Shape).ReducesTo [1] ⟨1, ![R]⟩) (h : (⟨2, ![R, N]⟩ : Shape).Reduces [1] ⟨1, ![R]⟩)
    (hu : 0 < (⟨0, ![]⟩ : Shape).numel) (hw : 1 < 32) (r : Fin R) :
    Host.reduce IntOp.addi (extui 32 p hw) init h' hu (ix1 r)
      = BitVec.ofNat 32 (Finset.univ.filter fun k : Fin N => p (ix2 r k) = 1#1).card := by
  have hl : ∀ k : Fin N, h.lift (ix1 r) k = ix2 r k := by
    intro k
    funext c
    refine Fin.ext ((h.lift_val (ix1 r) k c).trans ?_)
    match c with
    | ⟨0, _⟩ => rfl
    | ⟨1, _⟩ => rfl
  rw [Host.reduce_eq_fold_single IntOp.addi _ _ h' h hu, hinit]
  refine Eq.trans ?_ (IndicatorCount.fold_addi_setWidth_eq_card (w := 32) (fun k : Fin N => p (ix2 r k)) Finset.univ)
  refine Finset.fold_congr fun k _ => ?_
  exact congrArg (fun q => (p q).setWidth 32) (hl k)

/-- The conjunction over a last axis of one position is what that position holds. -/
theorem all_read {R : Nat} (p : IVec ⟨3, ![R, 1, 1]⟩ 1) (init : IVec ⟨0, ![]⟩ 1) (hinit : ∀ q, init q = 1#1)
    (h' : (⟨3, ![R, 1, 1]⟩ : Shape).ReducesTo [2] ⟨2, ![R, 1]⟩) (h : (⟨3, ![R, 1, 1]⟩ : Shape).Reduces [2] ⟨2, ![R, 1]⟩)
    (hu : 0 < (⟨0, ![]⟩ : Shape).numel) (r : Fin R) (hp : p (ix3 r (0 : Fin 1) (0 : Fin 1)) = 1#1) :
    Host.reduce IntOp.andi p init h' hu (ix2 r (0 : Fin 1)) = 1#1 := by
  have hl : ∀ k : Fin 1, h.lift (ix2 r (0 : Fin 1)) k = ix3 r (0 : Fin 1) (0 : Fin 1) := by
    intro k
    funext c
    obtain rfl : k = 0 := Subsingleton.elim _ _
    refine Fin.ext ((h.lift_val (ix2 r (0 : Fin 1)) (0 : Fin 1) c).trans ?_)
    match c with
    | ⟨0, _⟩ => rfl
    | ⟨1, _⟩ => rfl
    | ⟨2, _⟩ => rfl
  rw [Host.reduce_eq_fold_single IntOp.andi _ _ h' h hu, hinit]
  show (Finset.univ : Finset (Fin 1)).fold IntOp.andi 1#1 _ = 1#1
  refine (Finset.fold_singleton (op := IntOp.andi) (b := 1#1) (f := p ∘ h.lift (ix2 r (0 : Fin 1))) (a := (0 : Fin 1))).trans ?_
  refine (congrArg (fun q => IntOp.andi (p q) 1#1) (hl 0)).trans ?_
  rw [hp]
  rfl

end Cert.Proof

end
-- ==== Proof.Comp.lean ====
/-
  The compaction and the clearing: what a sum over the candidates' rows is, as a sum over the row's elements
  above the threshold of compaction. At any float interpretation, and for the sum of any function of the
  elements.
-/
module

public import proofs.«01_k».proof.Proof.Words

@[expose] public section

noncomputable section

namespace Cert.Proof

open Cert.KernelIdeal Cert.KernelIdeal.Gen
open Idealize.ShloMosaic Idealize.SL.Sem
open Finset (range univ)

variable {F : FTy → Type}

/-! ## Sums over positions and lanes -/

section Sums
variable {A : Type} [AddCommMonoid A]

theorem sum_lanes (f : S16.Idx → A) : ∑ l, f l = ∑ i ∈ range 16, f (lane i) := by
  refine Finset.sum_bij' (fun l _ => (l 0).val) (fun i _ => lane i) ?_ ?_ ?_ ?_ ?_
  · intro l _; exact Finset.mem_range.2 (lane_lt l)
  · intro i _; exact Finset.mem_univ _
  · intro l _; exact lane_self l
  · intro i hi; exact lane_val i (Finset.mem_range.1 hi)
  · intro l _; rw [lane_self]

theorem sum_pos (f : S32768.Idx → A) : ∑ p, f p = ∑ i ∈ range 32768, f (pos i) := by
  refine Finset.sum_bij' (fun p _ => (p 0).val) (fun i _ => pos i) ?_ ?_ ?_ ?_ ?_
  · intro p _; exact Finset.mem_range.2 (pos_lt p)
  · intro i _; exact Finset.mem_univ _
  · intro p _; exact pos_self p
  · intro i hi; exact pos_val i (Finset.mem_range.1 hi)
  · intro p _; rw [pos_self]

theorem sum_blocks (f : ℕ → A) (b : ℕ) : ∀ a, ∑ n ∈ range (a * b), f n = ∑ i ∈ range a, ∑ j ∈ range b, f (b * i + j)
  | 0 => by simp
  | a + 1 => by
    rw [Nat.succ_mul, Finset.sum_range_add, sum_blocks f b a, Finset.sum_range_succ, Nat.mul_comm a b]

/-- A sum over the row is the sum, lane by lane, over the trips and their eight slices. -/
theorem sum_slices (f : S32768.Idx → A) :
    ∑ p, f p = ∑ l : S16.Idx, ∑ t ∈ range 256, ∑ j ∈ range 8, f (pos (128 * t + 16 * j + (l 0).val)) := by
  have e1 : ∑ l : S16.Idx, ∑ t ∈ range 256, ∑ j ∈ range 8, f (pos (128 * t + 16 * j + (l 0).val))
      = ∑ t ∈ range 256, ∑ j ∈ range 8, ∑ l : S16.Idx, f (pos (128 * t + 16 * j + (l 0).val)) :=
    Finset.sum_comm.trans (Finset.sum_congr rfl fun t _ => Finset.sum_comm)
  have e2 := sum_blocks (fun n => f (pos n)) 128 256
  rw [e1, sum_pos]
  refine e2.trans (Finset.sum_congr rfl fun t _ => (sum_blocks (fun n => f (pos (128 * t + n))) 16 8).trans (Finset.sum_congr rfl fun j _ => ?_))
  rw [sum_lanes]
  refine Finset.sum_congr rfl fun i hi => ?_
  rw [lane_val i (Finset.mem_range.1 hi), Nat.add_assoc]

end Sums

/-! ## The scatter -/

/-- One lane of a masked indexed store. -/
def lane1 {s : Shape} {e : EltTy} {d : Fin 1 → Nat} [FloatOps F] (idxs : Fin s.rank → IVec ⟨1, d⟩ 32) (v : Vec F ⟨1, d⟩ e)
    (mask : IVec ⟨1, d⟩ 1) (h : ∀ a x, (idxs a x).toNat < s.size a) (g : Vec F s e) (k : Fin (d 0)) : Vec F s e :=
  if mask (Shape.ofLane k) = 1 then
    fun j => if (∀ a, (j a).val = (idxAt idxs h (Shape.ofLane k) a).val) then v (Shape.ofLane k) else g j
  else g

theorem storeIdx_eq {s : Shape} {e : EltTy} {d : Fin 1 → Nat} [FloatOps F] (f : Vec F s e) (idxs : Fin s.rank → IVec ⟨1, d⟩ 32) (v : Vec F ⟨1, d⟩ e)
    (mask : IVec ⟨1, d⟩ 1) (h : ∀ a x, (idxs a x).toNat < s.size a) :
    storeIdx f idxs v mask false h = (List.finRange (d 0)).foldl (lane1 idxs v mask h) f := by
  unfold storeIdx
  congr 1
  funext g k
  unfold lane1
  by_cases h1 : mask (Shape.ofLane k) = 1
  · refine (if_pos h1).trans (Eq.trans ?_ (if_pos h1).symm)
    funext j
    by_cases h2 : ∀ a, (j a).val = (idxAt idxs h (Shape.ofLane k) a).val
    · exact (if_pos h2).trans (if_pos h2).symm
    · exact (if_neg h2).trans (if_neg h2).symm
  · exact (if_neg h1).trans (if_neg h1).symm

theorem lane1_at {s : Shape} {e : EltTy} {d : Fin 1 → Nat} [FloatOps F] (idxs : Fin s.rank → IVec ⟨1, d⟩ 32) (v : Vec F ⟨1, d⟩ e)
    (mask : IVec ⟨1, d⟩ 1) (h : ∀ a x, (idxs a x).toNat < s.size a) (g : Vec F s e) (k : Fin (d 0)) (j : s.Idx) :
    lane1 idxs v mask h g k j = if mask (Shape.ofLane k) = 1#1 ∧ (∀ a, (j a).val = (idxAt idxs h (Shape.ofLane k) a).val) then v (Shape.ofLane k) else g j := by
  unfold lane1
  by_cases h1 : mask (Shape.ofLane k) = 1
  · rw [if_pos h1]
    exact if_congr ⟨fun hh => ⟨h1, hh⟩, fun hh => hh.2⟩ rfl rfl
  · rw [if_neg h1, if_neg (fun hh => h1 hh.1)]

/-- One element of a masked indexed store of which at most one lane names it: the fold over any lanes. -/
theorem foldl_store {s : Shape} {e : EltTy} {d : Fin 1 → Nat} [FloatOps F] (idxs : Fin s.rank → IVec ⟨1, d⟩ 32) (v : Vec F ⟨1, d⟩ e)
    (mask : IVec ⟨1, d⟩ 1) (h : ∀ a x, (idxs a x).toNat < s.size a) (j : s.Idx) (k0 : Fin (d 0))
    (hk : ∀ k, k ≠ k0 → ¬ ∀ a, (j a).val = (idxAt idxs h (Shape.ofLane k) a).val) : ∀ (ks : List (Fin (d 0))) (f : Vec F s e),
    ks.foldl (lane1 idxs v mask h) f j
      = if k0 ∈ ks ∧ mask (Shape.ofLane k0) = 1#1 ∧ (∀ a, (j a).val = (idxAt idxs h (Shape.ofLane k0) a).val) then v (Shape.ofLane k0) else f j
  | [], f => by simp
  | k :: ks, f => by
    rw [List.foldl_cons, foldl_store idxs v mask h j k0 hk ks, lane1_at]
    by_cases hk0 : k = k0
    · subst hk0
      by_cases hm : mask (Shape.ofLane k) = 1#1 ∧ (∀ a, (j a).val = (idxAt idxs h (Shape.ofLane k) a).val)
      · rw [if_pos hm, if_pos (⟨List.mem_cons_self, hm⟩ : k ∈ k :: ks ∧ _), ite_self]
      · rw [if_neg hm, if_neg (fun hh => hm hh.2), if_neg (fun hh => hm hh.2)]
    · rw [if_neg (fun hh : _ ∧ _ => hk k hk0 hh.2)]
      refine if_congr ⟨fun hh => ⟨List.mem_cons_of_mem _ hh.1, hh.2⟩, fun hh => ⟨?_, hh.2⟩⟩ rfl rfl
      exact (List.mem_cons.1 hh.1).resolve_left (fun h => hk0 h.symm)

section Ops
variable [FloatOps F]

theorem store_at (g : Row F) (idx : IVec S16 32) (v : V16 F) (m : IVec S16 1)
    (h : ∀ a l, ((![idx] : Fin 1 → IVec S16 32) a l).toNat < S32768.size a) (p : S32768.Idx) (l : S16.Idx)
    (hl : ∀ l', l' ≠ l → (idx l').toNat ≠ (p 0).val) :
    storeIdx g ![idx] v m false h p = if m l = 1#1 ∧ (idx l).toNat = (p 0).val then v l else g p := by
  have e : (Shape.ofLane (l 0) : S16.Idx) = l := (ofLane_eq (l 0)).trans (lane_self l)
  have hk : ∀ k : Fin (![16] 0), k ≠ l 0 → ¬ ∀ a, (p a).val = (idxAt (s := S32768) ![idx] h (Shape.ofLane k) a).val := by
    intro k hk hP
    exact hl (Shape.ofLane k) (fun hh => hk (by rw [← hh]; rfl)) (hP 0).symm
  rw [storeIdx_eq, foldl_store _ _ _ _ p (l 0) hk, e]
  refine if_congr ⟨fun hh => ⟨hh.2.1, (hh.2.2 0).symm⟩, fun hh => ⟨List.mem_finRange _, hh.1, fun a => ?_⟩⟩ rfl rfl
  match a with
  | 0 => exact hh.2.symm

/-- What the scatter leaves: lane `l` of slot row `k` takes the slice's lane when its mask is set and its counter
    stands at `k`. -/
theorem scat_at (x : Row F) (c : V16 F) (o : ℕ) (cnt : IVec S16 32) (g : Row F) (h : ∀ l, (cnt l).toNat < 2048)
    (k : ℕ) (hk : k < 2048) (l : S16.Idx) :
    scat x c o cnt g (pos (16 * k + (l 0).val)) = if msk x c o l = 1#1 ∧ (cnt l).toNat = k then sl x o l else g (pos (16 * k + (l 0).val)) := by
  have hl := lane_lt l
  have hp : (pos (16 * k + (l 0).val) 0).val = 16 * k + (l 0).val := pos_val _ (by omega)
  unfold scat
  dsimp only
  rw [dif_pos (idx_inb cnt h), store_at _ _ _ _ _ _ l]
  · rw [hp, idx_toNat cnt l (h l)]
    exact if_congr ⟨fun hh => ⟨hh.1, by omega⟩, fun hh => ⟨hh.1, by omega⟩⟩ rfl rfl
  · intro l' hl' hh
    rw [hp, idx_toNat cnt l' (h l')] at hh
    have := lane_lt l'
    refine hl' ?_
    rw [← lane_self l', ← lane_self l, show (l' 0).val = (l 0).val by omega]

variable {A : Type} [AddCommMonoid A]

/-- The candidates below the counter, summed, in one lane. -/
def heap (φ : F .f32 → A) (g : Row F) (l : S16.Idx) (n : ℕ) : A := ∑ k ∈ range n, φ (g (pos (16 * k + (l 0).val)))

/-- What slice `o` adds to a lane's sum. -/
def add1 (φ : F .f32 → A) (x : Row F) (c : V16 F) (l : S16.Idx) (o : ℕ) : A := if msk x c o l = 1#1 then φ (sl x o l) else 0

theorem scat_heap (φ : F .f32 → A) (x : Row F) (c : V16 F) (o : ℕ) (cnt : IVec S16 32) (g : Row F) (h : ∀ l, (cnt l).toNat < 2048) (l : S16.Idx) :
    heap φ (scat x c o cnt g) l ((cnt l).toNat + bit (msk x c o l)) = heap φ g l (cnt l).toNat + add1 φ x c l o := by
  have hb : heap φ (scat x c o cnt g) l (cnt l).toNat = heap φ g l (cnt l).toNat := by
    refine Finset.sum_congr rfl fun k hk => ?_
    have hk' := Finset.mem_range.1 hk
    rw [scat_at x c o cnt g h k (hk'.trans (h l)), if_neg (fun hh => by omega)]
  unfold bit add1
  by_cases hm : msk x c o l = 1#1
  · rw [if_pos hm, if_pos hm]
    unfold heap at hb ⊢
    rw [Finset.sum_range_succ, hb, scat_at x c o cnt g h _ (h l), if_pos ⟨hm, rfl⟩]
  · rw [if_neg hm, if_neg hm, add_zero, add_zero, hb]

theorem trip_heap (φ : F .f32 → A) (x : Row F) (c : V16 F) (t : ℕ) (cnt : IVec S16 32) (g : Row F) (h : ∀ l, (cnt l).toNat + 8 ≤ 2048) (l : S16.Idx) :
    ∀ u, u ≤ 8 → heap φ (iter (fun u g => scat x c (128 * t + 16 * u) (cnts x c t cnt u) g) g u) l (cnts x c t cnt u l).toNat
      = heap φ g l (cnt l).toNat + ∑ j ∈ range u, add1 φ x c l (128 * t + 16 * j)
  | 0, _ => by show heap φ g l (cnt l).toNat = _; simp
  | u + 1, hu => by
    have hc : ∀ l, (cnts x c t cnt u l).toNat < 2048 := fun l => by
      have h1 := (cnts_toNat x c t cnt l (by have := h l; omega) u (by omega)).2
      have := h l; omega
    have e : (cnts x c t cnt (u + 1) l).toNat = (cnts x c t cnt u l).toNat + bit (msk x c (128 * t + 16 * u) l) :=
      cstep_toNat x c (128 * t + 16 * u) (cnts x c t cnt u) l (by have := hc l; omega)
    rw [e, Finset.sum_range_succ, ← add_assoc, ← trip_heap φ x c t cnt g h l u (by omega)]
    exact scat_heap φ x c _ _ _ hc l

theorem cond1_iff (w : BitVec 32) (hw : w.toNat < 2 ^ 31) : k0_cond1 w = 1#1 ↔ 0 < w.toNat := by
  have h1 : ∀ b : BitVec 1, Scalar.cmpi .ne (Scalar.extui b) 0#32 = b := by decide
  show Scalar.cmpi .ne (Scalar.extui (Scalar.cmpi .sgt w 0#32)) 0#32 = 1#1 ↔ _
  rw [h1]
  show BitVec.ofBool ((0#32).slt w) = 1#1 ↔ _
  rw [BitVec.slt, BitVec.toInt_eq_toNat_of_lt (x := w) (by omega)]
  by_cases h : 0 < w.toNat <;> simp [h]

theorem any_false (x : Row F) (c : V16 F) (t : ℕ) (h : ¬ k0_cond1 (anyw x c t) = 1#1) (l : S16.Idx) (j : ℕ) (hj : j < 8) :
    ¬ msk x c (128 * t + 16 * j) l = 1#1 := by
  have hsm : ∀ b : BitVec 1, (b.setWidth 32).toNat < 2 ^ 31 := by decide
  obtain ⟨k, hk, hmax⟩ := maxw_spec (extui 32 (ori (ori (ori (ori (ori (ori (ori (msk x c (128 * t + 16 * 0)) (msk x c (128 * t + 16 * 1)))
    (msk x c (128 * t + 16 * 2))) (msk x c (128 * t + 16 * 3))) (msk x c (128 * t + 16 * 4))) (msk x c (128 * t + 16 * 5))) (msk x c (128 * t + 16 * 6)))
    (msk x c (128 * t + 16 * 7))) natLt_1_32) (fun l => hsm _)
  have hk' : anyw x c t = _ := hk
  have hw : (anyw x c t).toNat < 2 ^ 31 := by rw [hk']; exact hsm _
  rw [cond1_iff _ hw, hk'] at h
  have h0 := (hmax l).trans (not_lt.1 h)
  have k0 : ∀ a : BitVec 1, (a.setWidth 32).toNat ≤ 0 → ¬ a = 1#1 := by decide
  have k1 : ∀ a b : BitVec 1, ¬ (a ||| b) = 1#1 → ¬ a = 1#1 ∧ ¬ b = 1#1 := by decide
  have a0 := k0 _ h0
  obtain ⟨a0, h7⟩ := k1 _ _ a0
  obtain ⟨a0, h6⟩ := k1 _ _ a0
  obtain ⟨a0, h5⟩ := k1 _ _ a0
  obtain ⟨a0, h4⟩ := k1 _ _ a0
  obtain ⟨a0, h3⟩ := k1 _ _ a0
  obtain ⟨a0, h2⟩ := k1 _ _ a0
  obtain ⟨h0, h1⟩ := k1 _ _ a0
  match j, hj with
  | 0, _ => exact h0
  | 1, _ => exact h1
  | 2, _ => exact h2
  | 3, _ => exact h3
  | 4, _ => exact h4
  | 5, _ => exact h5
  | 6, _ => exact h6
  | 7, _ => exact h7

theorem comp_heap (φ : F .f32 → A) (x : Row F) (c : V16 F) (g : Row F) (l : S16.Idx) :
    ∀ n, n ≤ 256 → heap φ (comp x c g n).2 l ((comp x c g n).1 l).toNat = ∑ t ∈ range n, ∑ j ∈ range 8, add1 φ x c l (128 * t + 16 * j)
  | 0, _ => by show heap φ g l (0#32).toNat = _; simp [heap]
  | n + 1, hn => by
    have hc : ∀ l, ((comp x c g n).1 l).toNat + 8 ≤ 2048 := fun l => by have := comp_le x c g l n (by omega); omega
    have IH := comp_heap φ x c g l n (by omega)
    rw [Finset.sum_range_succ, ← IH]
    rw [show comp x c g (n + 1) = compStep x c n (comp x c g n) from rfl]
    unfold compStep
    dsimp only
    split
    · exact trip_heap φ x c n (comp x c g n).1 (comp x c g n).2 hc l 8 le_rfl
    · rename_i hf
      have h0 := any_false x c n hf l
      have e1 : (cnts x c n (comp x c g n).1 8 l).toNat = ((comp x c g n).1 l).toNat := by
        rw [(cnts_toNat x c n (comp x c g n).1 l (by have := hc l; omega) 8 le_rfl).1, Finset.sum_eq_zero, add_zero]
        intro j hj
        exact if_neg (h0 j (Finset.mem_range.1 hj))
      rw [e1, Finset.sum_eq_zero (s := range 8), add_zero]
      intro j hj
      exact if_neg (h0 j (Finset.mem_range.1 hj))

/-! ## The clearing -/

theorem put_at (x : Row F) (o : ℕ) (v : V16 F) (k : ℕ) (l : S16.Idx) (h : k + (l 0).val < 32768) (h16 : k % 16 = 0) (ho : o % 16 = 0) :
    put x o v (pos (k + (l 0).val)) = if k = o then v l else x (pos (k + (l 0).val)) := by
  have hl := lane_lt l
  unfold put
  rw [pos_val _ h]
  by_cases hk : k = o
  · subst hk
    rw [if_pos (by omega), if_pos rfl, Nat.add_sub_cancel_left, lane_self]
  · rw [if_neg (by omega), if_neg hk]

theorem slt_iff (k : ℕ) (hk : k < 2048) (c : BitVec 32) (hc : c.toNat ≤ 2048) : IntOp.cmpi .slt (BitVec.ofNat 32 k) c = 1#1 ↔ k < c.toNat := by
  have e : (BitVec.ofNat 32 k).toNat = k := by rw [BitVec.toNat_ofNat]; omega
  show BitVec.ofBool ((BitVec.ofNat 32 k).slt c) = 1#1 ↔ _
  rw [BitVec.slt, BitVec.toInt_eq_toNat_of_lt (x := c) (by omega), BitVec.toInt_eq_toNat_of_lt (x := BitVec.ofNat 32 k) (by omega), e]
  by_cases h : k < c.toNat <;> simp [h]

theorem clear_at (neg : F .f32) (cnt : IVec S16 32) (g : Row F) (hc : ∀ l, (cnt l).toNat ≤ 2048) (k : ℕ) (hk : k < 2048) (l : S16.Idx) :
    ∀ n, n ≤ 2048 → iter (clearStep neg cnt) g n (pos (16 * k + (l 0).val)) = if k < n ∧ ¬ k < (cnt l).toNat then neg else g (pos (16 * k + (l 0).val))
  | 0, _ => by simp [iter]
  | n + 1, hn => by
    have hl := lane_lt l
    have IH := clear_at neg cnt g hc k hk l n (by omega)
    show put (iter (clearStep neg cnt) g n) (16 * n) _ (pos (16 * k + (l 0).val)) = _
    rw [put_at _ _ _ _ _ (by omega) (by omega) (by omega)]
    by_cases hkn : k = n
    · subst hkn
      rw [if_pos rfl]
      rw [if_neg (by omega)] at IH
      show (if IntOp.cmpi .slt (BitVec.ofNat 32 k) (cnt l) = 1#1 then iter (clearStep neg cnt) g k (pos (16 * k + (l 0).val)) else neg) = _
      by_cases h : k < (cnt l).toNat
      · rw [if_pos ((slt_iff k hk _ (hc l)).2 h), if_neg (fun hh => hh.2 h), IH]
      · rw [if_neg (fun hh => h ((slt_iff k hk _ (hc l)).1 hh)), if_pos ⟨by omega, h⟩]
    · rw [if_neg (by omega), IH]
      exact if_congr ⟨fun hh => ⟨by omega, hh.2⟩, fun hh => ⟨by omega, hh.2⟩⟩ rfl rfl

/-- A sum over the cleared candidates' rows is the sum over the row's elements above the threshold of compaction. -/
theorem cands_sum (φ : F .f32 → A) (neg : F .f32) (hφ : φ neg = 0) (x g : Row F) (b : F .f32) (hb : cut neg x = broadcast S16 b) :
    ∑ l : S16.Idx, ∑ k ∈ range (maxn neg x g).toNat, φ (sl (cands neg x g) (16 * k) l)
      = ∑ p, if FloatOps.cmpf .ogt (x p) b = 1#1 then φ (x p) else 0 := by
  rw [sum_slices]
  refine Finset.sum_congr rfl fun l _ => ?_
  have hle : ∀ l, ((comp x (cut neg x) g 256).1 l).toNat ≤ 2048 := fun l => (comp_le x (cut neg x) g l 256 le_rfl).trans (by norm_num)
  obtain ⟨m, hm, hmax⟩ := maxw_spec (comp x (cut neg x) g 256).1 (fun l => by have := hle l; omega)
  have hn : (maxn neg x g).toNat = ((comp x (cut neg x) g 256).1 m).toNat := by
    show (maxw _).toNat = _
    rw [hm]
  have hln : ((comp x (cut neg x) g 256).1 l).toNat ≤ (maxn neg x g).toNat := by rw [hn]; exact hmax l
  have e1 : ∑ k ∈ range (maxn neg x g).toNat, φ (sl (cands neg x g) (16 * k) l)
      = heap φ (comp x (cut neg x) g 256).2 l ((comp x (cut neg x) g 256).1 l).toNat := by
    unfold heap
    rw [← Finset.sum_subset (Finset.range_mono hln)]
    · refine Finset.sum_congr rfl fun k hk => ?_
      have hk' := Finset.mem_range.1 hk
      show φ (iter (clearStep neg _) _ _ (pos (16 * k + (l 0).val))) = _
      rw [clear_at _ _ _ hle k (hk'.trans_le (hle l)) l _ (maxn_le neg x g), if_neg (fun hh => hh.2 hk')]
    · intro k hk hk'
      have h1 := Finset.mem_range.1 hk
      have h2 : ¬ k < _ := fun h => hk' (Finset.mem_range.2 h)
      show φ (iter (clearStep neg _) _ _ (pos (16 * k + (l 0).val))) = _
      rw [clear_at _ _ _ hle k (h1.trans_le (maxn_le neg x g)) l _ (maxn_le neg x g), if_pos ⟨h1, h2⟩, hφ]
  rw [e1, comp_heap φ x (cut neg x) g l 256 le_rfl, hb]
  rfl

end Ops

end Cert.Proof
-- ==== Proof.SparseReal.lean ====
/-
  Sparsemax over the reals, with nothing of a program in it: the total of the positive parts above a threshold,
  the threshold that makes it one, the bisection and the refinement that find it, and the formula over the
  sorted row.
-/
module

public import proofs.«01_k».proof.Proof.Setup

@[expose] public section

noncomputable section

namespace Cert.Proof

open Finset

variable {ι : Type} [Fintype ι]

/-- The positive parts of the row above `t`, summed. -/
def above (z : ι → ℝ) (t : ℝ) : ℝ := ∑ p, max (z p - t) 0

theorem above_anti (z : ι → ℝ) {s t : ℝ} (h : s ≤ t) : above z t ≤ above z s :=
  sum_le_sum fun p _ => max_le_max (by linarith) le_rfl

theorem above_lt (z : ι → ℝ) {s t : ℝ} (h : s < t) (hs : 0 < above z s) : above z t < above z s := by
  obtain ⟨p, -, hp⟩ : ∃ p ∈ univ, 0 < max (z p - s) 0 := exists_lt_of_sum_lt (s := univ) (f := fun _ => (0 : ℝ)) (by simpa [above] using hs)
  refine sum_lt_sum (fun p _ => max_le_max (by linarith) le_rfl) ⟨p, mem_univ p, ?_⟩
  have hp' : 0 < z p - s := by
    rcases lt_max_iff.1 hp with h | h
    · exact h
    · exact absurd h (lt_irrefl _)
  exact max_lt (lt_of_lt_of_le (by linarith) (le_max_left _ _)) hp

/-- A point whose total is at least one is not above the threshold. -/
theorem le_of_one_le (z : ι → ℝ) {τ t : ℝ} (hτ : above z τ = 1) (ht : 1 ≤ above z t) : t ≤ τ := by
  by_contra h
  have := above_lt z (not_le.1 h) (by rw [hτ]; exact one_pos)
  linarith

/-- A point whose total is below one is above the threshold. -/
theorem lt_of_lt_one (z : ι → ℝ) {τ t : ℝ} (hτ : above z τ = 1) (ht : above z t < 1) : τ < t := by
  by_contra h
  have := above_anti z (not_lt.1 h)
  linarith

/-- The bracket of the bisection, `lo` where the total is at least one. -/
theorem one_le_above (z : ι → ℝ) {M : ℝ} {p : ι} (hp : z p = M) : 1 ≤ above z (M - 1) := by
  have : max (z p - (M - 1)) 0 ≤ above z (M - 1) :=
    single_le_sum (f := fun p => max (z p - (M - 1)) 0) (fun q _ => le_max_right _ _) (mem_univ p)
  have h2 := le_max_left (z p - (M - 1)) 0
  linarith

theorem above_max (z : ι → ℝ) {M : ℝ} (hM : ∀ p, z p ≤ M) : above z M = 0 :=
  sum_eq_zero fun p _ => max_eq_right (by linarith [hM p])

/-- One refinement from just below the threshold reaches it, when no element lies close below it. -/
theorem refine_eq (z : ι → ℝ) {τ lo ε : ℝ} (hτ : above z τ = 1) (h1 : lo ≤ τ) (h2 : τ < lo + ε)
    (hgap : ∀ p, τ ≤ z p ∨ z p + ε ≤ τ) :
    0 < ∑ p, (if lo < z p then (1 : ℝ) else 0)
      ∧ ((∑ p, if lo < z p then z p else 0) - 1) / (∑ p, if lo < z p then (1 : ℝ) else 0) = τ := by
  have hA : ∀ p, max (z p - τ) 0 = (if lo < z p then z p else 0) - (if lo < z p then (1 : ℝ) else 0) * τ := by
    intro p
    by_cases hp : lo < z p
    · have : τ ≤ z p := by
        rcases hgap p with h | h
        · exact h
        · linarith
      rw [if_pos hp, if_pos hp, max_eq_left (by linarith)]; ring
    · rw [if_neg hp, if_neg hp, max_eq_right (by linarith)]; ring
  have hsum : (∑ p, if lo < z p then z p else 0) - (∑ p, if lo < z p then (1 : ℝ) else 0) * τ = 1 := by
    refine Eq.trans ?_ hτ
    rw [above, sum_congr rfl fun p _ => hA p, sum_sub_distrib, ← sum_mul]
  have hpos : 0 < ∑ p, (if lo < z p then (1 : ℝ) else 0) := by
    refine lt_of_le_of_ne (sum_nonneg fun p _ => by split <;> norm_num) fun h0 => ?_
    have hz : ∀ p, ¬ lo < z p := fun p hp => by
      have := (sum_eq_zero_iff_of_nonneg (s := univ) (f := fun p => if lo < z p then (1 : ℝ) else 0)
        (fun p _ => by split <;> norm_num)).1 h0.symm p (mem_univ p)
      simp [hp] at this
    rw [← h0, sum_eq_zero (fun p _ => if_neg (hz p))] at hsum
    norm_num at hsum
  refine ⟨hpos, ?_⟩
  rw [div_eq_iff hpos.ne']
  linarith

/-! ## The formula over the sorted row -/

/-- The entries up to `k`, summed. -/
def upto {n : ℕ} (s : Fin n → ℝ) (k : Fin n) : ℝ := ∑ j, if j ≤ k then s j else 0
/-- Whether the entry at `k` is above the threshold that the entries up to it would give. -/
def inSupp {n : ℕ} (s : Fin n → ℝ) (k : Fin n) : Prop := 0 < s k - (upto s k - 1) / (k.val + 1)
instance {n : ℕ} (s : Fin n → ℝ) (k : Fin n) : Decidable (inSupp s k) := inferInstanceAs (Decidable (_ < _))
/-- How many entries are. -/
def suppN {n : ℕ} (s : Fin n → ℝ) : ℕ := (univ.filter (inSupp s)).card

theorem count_le {n : ℕ} (k : Fin n) : (∑ j : Fin n, if j ≤ k then (1 : ℝ) else 0) = k.val + 1 := by
  rw [sum_ite, sum_const_zero, add_zero, sum_const, nsmul_eq_mul, mul_one]
  have : (univ.filter fun j : Fin n => j ≤ k) = Finset.Iic k := by ext j; simp
  rw [this, Fin.card_Iic]
  push_cast; ring

theorem inSupp_iff {n : ℕ} (s : Fin n → ℝ) (k : Fin n) : inSupp s k ↔ (∑ j, if j ≤ k then s j - s k else 0) < 1 := by
  have hk : (0 : ℝ) < k.val + 1 := by positivity
  have e : (∑ j, if j ≤ k then s j - s k else 0) = upto s k - (k.val + 1) * s k := by
    rw [← count_le k, upto, sum_mul, ← sum_sub_distrib]
    exact sum_congr rfl fun j _ => by split <;> ring
  rw [e, inSupp, sub_pos, div_lt_iff₀ hk]
  constructor <;> intro h <;> linarith

theorem inSupp_down {n : ℕ} (s : Fin n → ℝ) (hs : Antitone s) {j k : Fin n} (h : j ≤ k) (hk : inSupp s k) : inSupp s j := by
  rw [inSupp_iff] at hk ⊢
  refine lt_of_le_of_lt (sum_le_sum fun i _ => ?_) hk
  by_cases hi : i ≤ j
  · rw [if_pos hi, if_pos (hi.trans h)]
    have := hs h
    linarith
  · rw [if_neg hi]
    by_cases hi' : i ≤ k
    · rw [if_pos hi']; have := hs hi'; linarith
    · rw [if_neg hi']

theorem inSupp_val {n : ℕ} (s : Fin n → ℝ) (hs : Antitone s) (k : Fin n) : inSupp s k ↔ k.val < suppN s := by
  constructor
  · intro hk
    have : Finset.Iic k ⊆ univ.filter (inSupp s) := fun j hj => mem_filter.2 ⟨mem_univ _, inSupp_down s hs (mem_Iic.1 hj) hk⟩
    have := card_le_card this
    rw [Fin.card_Iic] at this
    exact this
  · intro hk
    by_contra h
    have : univ.filter (inSupp s) ⊆ Finset.Iio k := fun j hj => by
      rw [mem_Iio]
      by_contra hj'
      exact h (inSupp_down s hs (not_lt.1 hj') (mem_filter.1 hj).2)
    have := card_le_card this
    rw [Fin.card_Iio] at this
    exact absurd hk (not_lt.2 this)

theorem suppN_pos {n : ℕ} (s : Fin n → ℝ) (hs : Antitone s) (hn : 0 < n) : 0 < suppN s := by
  refine (inSupp_val s hs ⟨0, hn⟩).1 ((inSupp_iff s _).2 ?_)
  rw [sum_eq_zero]
  · norm_num
  · intro j _
    by_cases hj : j ≤ ⟨0, hn⟩
    · have : j = ⟨0, hn⟩ := le_antisymm hj (Nat.zero_le _)
      rw [if_pos hj, this, sub_self]
    · rw [if_neg hj]

theorem suppN_le {n : ℕ} (s : Fin n → ℝ) : suppN s ≤ n := by
  have := card_le_univ (univ.filter (inSupp s))
  rwa [Fintype.card_fin] at this

/-- The formula's threshold makes the total one. -/
theorem above_sorted {n : ℕ} (s : Fin n → ℝ) (hs : Antitone s) (r : Fin n) (hr : r.val + 1 = suppN s) :
    above s ((upto s r - 1) / (r.val + 1)) = 1 := by
  have hr0 : (0 : ℝ) < r.val + 1 := by positivity
  have hin : ∀ j, inSupp s j ↔ j ≤ r := fun j => by rw [inSupp_val s hs, ← hr, Nat.lt_succ_iff]; rfl
  set θ := (upto s r - 1) / (r.val + 1) with hθ
  have hr' : θ < s r := by have := (hin r).2 le_rfl; unfold inSupp at this; linarith
  have hout : ∀ j, ¬ j ≤ r → s j ≤ θ := by
    intro j hj
    have hj' : r.val + 1 ≤ j.val := Nat.succ_le_of_lt (not_le.1 hj)
    have hk : r.val + 1 < n := lt_of_le_of_lt hj' j.isLt
    have hjk : s j ≤ s ⟨r.val + 1, hk⟩ := hs hj'
    have hnk : ¬ inSupp s ⟨r.val + 1, hk⟩ := fun h => by
      have := (hin _).1 h
      exact absurd this (by simp [Fin.le_def])
    have hu : upto s ⟨r.val + 1, hk⟩ = upto s r + s ⟨r.val + 1, hk⟩ := by
      unfold upto
      rw [← sum_erase_add univ _ (mem_univ (⟨r.val + 1, hk⟩ : Fin n)), if_pos le_rfl, ← sum_erase_add univ (fun j => if j ≤ r then s j else 0) (mem_univ (⟨r.val + 1, hk⟩ : Fin n)),
        if_neg (by simp [Fin.le_def]), add_zero]
      congr 1
      refine sum_congr rfl fun i hi => ?_
      have hne : i.val ≠ r.val + 1 := fun h => (mem_erase.1 hi).1 (Fin.ext h)
      by_cases h : i ≤ r
      · rw [if_pos h, if_pos]
        simp only [Fin.le_def] at h ⊢; omega
      · rw [if_neg h, if_neg]
        simp only [Fin.le_def] at h ⊢; omega
    unfold inSupp at hnk
    rw [hu] at hnk
    have h1 := not_lt.1 hnk
    have hk0 : (0 : ℝ) < ((r.val + 1 : ℕ) : ℝ) + 1 := by positivity
    have h2 : s ⟨r.val + 1, hk⟩ ≤ (upto s r + s ⟨r.val + 1, hk⟩ - 1) / (((r.val + 1 : ℕ) : ℝ) + 1) := by
      simpa using h1
    rw [le_div_iff₀ hk0] at h2
    refine hjk.trans ?_
    rw [hθ, le_div_iff₀ hr0]
    push_cast at h2
    linarith
  have hA : ∀ j, max (s j - θ) 0 = (if j ≤ r then s j else 0) - (if j ≤ r then (1 : ℝ) else 0) * θ := by
    intro j
    by_cases hj : j ≤ r
    · have := hs hj
      rw [if_pos hj, if_pos hj, max_eq_left (by linarith)]; ring
    · have := hout j hj
      rw [if_neg hj, if_neg hj, max_eq_right (by linarith)]; ring
  unfold above
  rw [sum_congr rfl fun j _ => hA j, sum_sub_distrib, ← sum_mul, count_le]
  show upto s r - (r.val + 1) * θ = 1
  rw [hθ, mul_div_cancel₀ _ hr0.ne']
  ring

end Cert.Proof
-- ==== Proof.KernelRow.lean ====
/-
  One row's computation on the extended reals: the maximum, the bisection's totals, the refinement and the
  output, and so the row's result as the positive parts above the threshold.
-/
module

public import proofs.«01_k».proof.Proof.Comp
public import proofs.«01_k».proof.Proof.SparseReal
public import Idealize.ShloMosaic.Lib.IdealHost

@[expose] public section

noncomputable section

namespace Cert.Proof

open Cert.KernelIdeal Cert.KernelIdeal.Gen
open Idealize.ShloMosaic Idealize.SL.Sem
open Finset (range univ)

/-! ## Reals among the extended reals -/

theorem coe_sum' {ι : Type} (s : Finset ι) (f : ι → ℝ) : ((∑ i ∈ s, f i : ℝ) : EReal) = ∑ i ∈ s, ((f i : ℝ) : EReal) := by
  classical
  refine Finset.induction_on s (by simp) fun a s ha IH => ?_
  rw [Finset.sum_insert ha, Finset.sum_insert ha, EReal.coe_add, IH]

theorem coe_max' (a b : ℝ) : ((max a b : ℝ) : EReal) = max (a : EReal) (b : EReal) := EReal.coe_strictMono.monotone.map_max

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem half_eq : Ideal.ofBits .f32 0x3F000000#32 = (((1 : ℝ) / 2 : ℝ) : EReal) := by
  simp [Ideal.ofBits, Ideal.ieee, -EReal.coe_mul]; norm_num

theorem bc_zero (l : S16.Idx) : (bc 0x00000000#32 : V16 Ideal) l = ((0 : ℝ) : EReal) := by
  show Ideal.ofBits .f32 0x00000000#32 = _
  rw [Ideal.ofBits_zero_f32, EReal.coe_zero]
theorem one_eq : (Scalar.ofBits .f32 0x3F800000#32 : Ideal .f32) = ((1 : ℝ) : EReal) := by
  show Ideal.ofBits .f32 0x3F800000#32 = _
  rw [Ideal.ofBits_one_f32, EReal.coe_one]
theorem bc_one (l : S16.Idx) : (bc 0x3F800000#32 : V16 Ideal) l = ((1 : ℝ) : EReal) := one_eq

/-! ## The lanes joined -/

theorem elane {α : Type} (v : S16.Idx → α) (k : ℕ) (h : S16.Slices ![k] S1) (hk : k < 16) :
    extractAt ![0] (extractStridedSlice S1 ![k] v h) inpos_S1_p0 = v (lane k) := by
  show v _ = v _
  congr 1
  funext a
  match a with
  | 0 => exact Fin.ext (by show k + 0 = k % 16; omega)

theorem laneSum_eq (v : V16 Ideal) : laneSum v = ∑ l, (v l : EReal) := by
  rw [sum_lanes]
  unfold laneSum
  dsimp only
  simp only [elane v _ _ (show (0 : ℕ) < 16 by decide), elane v _ _ (show (1 : ℕ) < 16 by decide), elane v _ _ (show (2 : ℕ) < 16 by decide),
    elane v _ _ (show (3 : ℕ) < 16 by decide), elane v _ _ (show (4 : ℕ) < 16 by decide), elane v _ _ (show (5 : ℕ) < 16 by decide),
    elane v _ _ (show (6 : ℕ) < 16 by decide), elane v _ _ (show (7 : ℕ) < 16 by decide), elane v _ _ (show (8 : ℕ) < 16 by decide),
    elane v _ _ (show (9 : ℕ) < 16 by decide), elane v _ _ (show (10 : ℕ) < 16 by decide), elane v _ _ (show (11 : ℕ) < 16 by decide),
    elane v _ _ (show (12 : ℕ) < 16 by decide), elane v _ _ (show (13 : ℕ) < 16 by decide), elane v _ _ (show (14 : ℕ) < 16 by decide),
    elane v _ _ (show (15 : ℕ) < 16 by decide)]
  simp only [Finset.sum_range_succ, Finset.sum_range_zero, zero_add]
  rfl

/-- The lanes' maximum in terms of the lanes read one by one. -/
theorem laneMax_eq (v : V16 Ideal) : (laneMax v : EReal) = max (max (max (max (max (max (max (max (max (max (max (max (max (max (max (v (lane 0) : EReal) (v (lane 1)))
    (v (lane 2))) (v (lane 3))) (v (lane 4))) (v (lane 5))) (v (lane 6))) (v (lane 7))) (v (lane 8))) (v (lane 9))) (v (lane 10))) (v (lane 11)))
    (v (lane 12))) (v (lane 13))) (v (lane 14))) (v (lane 15)) := by
  unfold laneMax
  dsimp only
  simp only [elane v _ _ (show (0 : ℕ) < 16 by decide), elane v _ _ (show (1 : ℕ) < 16 by decide), elane v _ _ (show (2 : ℕ) < 16 by decide),
    elane v _ _ (show (3 : ℕ) < 16 by decide), elane v _ _ (show (4 : ℕ) < 16 by decide), elane v _ _ (show (5 : ℕ) < 16 by decide),
    elane v _ _ (show (6 : ℕ) < 16 by decide), elane v _ _ (show (7 : ℕ) < 16 by decide), elane v _ _ (show (8 : ℕ) < 16 by decide),
    elane v _ _ (show (9 : ℕ) < 16 by decide), elane v _ _ (show (10 : ℕ) < 16 by decide), elane v _ _ (show (11 : ℕ) < 16 by decide),
    elane v _ _ (show (12 : ℕ) < 16 by decide), elane v _ _ (show (13 : ℕ) < 16 by decide), elane v _ _ (show (14 : ℕ) < 16 by decide),
    elane v _ _ (show (15 : ℕ) < 16 by decide)]
  rfl

theorem laneMax_le (v : V16 Ideal) (b : EReal) (h : ∀ l, (v l : EReal) ≤ b) : (laneMax v : EReal) ≤ b := by
  rw [laneMax_eq]
  simp only [max_le_iff, h, and_self]

theorem le_laneMax (v : V16 Ideal) (l : S16.Idx) : (v l : EReal) ≤ laneMax v := by
  rw [laneMax_eq, ← lane_self l]
  have hl := lane_lt l
  generalize (l 0).val = k at hl
  interval_cases k <;> simp only [le_max_iff, le_refl, true_or, or_true]

/-! ## The maximum -/

theorem maxStep_at (x : Row Ideal) (t : ℕ) (acc : V16 Ideal) (l : S16.Idx) :
    (maxStep x t acc l : EReal) = max (acc l : EReal) (max (max (max (sl x (128 * t + 16 * 0) l : EReal) (sl x (128 * t + 16 * 1) l)) (max (sl x (128 * t + 16 * 2) l : EReal) (sl x (128 * t + 16 * 3) l)))
      (max (max (sl x (128 * t + 16 * 4) l : EReal) (sl x (128 * t + 16 * 5) l)) (max (sl x (128 * t + 16 * 6) l : EReal) (sl x (128 * t + 16 * 7) l)))) := rfl

theorem rowMax_le (x : Row Ideal) (b : EReal) (h : ∀ p, (x p : EReal) ≤ b) : (rowMax (⊥ : EReal) x : EReal) ≤ b := by
  refine laneMax_le _ _ fun l => ?_
  have : ∀ n, (iter (maxStep x) (broadcast S16 (⊥ : EReal)) n l : EReal) ≤ b := by
    intro n
    induction n with
    | zero => exact bot_le
    | succ n IH =>
      show (maxStep x n _ l : EReal) ≤ b
      rw [maxStep_at]
      have hs : ∀ o, (sl x o l : EReal) ≤ b := fun o => h _
      simp only [max_le_iff, IH, hs, and_self]
  exact this 256

theorem le_rowMax (x : Row Ideal) (p : S32768.Idx) : (x p : EReal) ≤ rowMax (⊥ : EReal) x := by
  have hp := pos_lt p
  have hl : (lane ((p 0).val % 16) 0).val = (p 0).val % 16 := lane_val _ (Nat.mod_lt _ (by decide))
  refine le_trans ?_ (le_laneMax _ (lane ((p 0).val % 16)))
  have key : ∀ n, (p 0).val / 128 < n → (x p : EReal) ≤ iter (maxStep x) (broadcast S16 (⊥ : EReal)) n (lane ((p 0).val % 16)) := by
    intro n
    induction n with
    | zero => intro h; omega
    | succ n IH =>
      intro h
      show _ ≤ (maxStep x n _ _ : EReal)
      rw [maxStep_at]
      by_cases hn : (p 0).val / 128 < n
      · exact le_trans (IH hn) (le_max_left _ _)
      · have hj : (p 0).val % 128 / 16 < 8 := by omega
        have e : x p = sl x (128 * n + 16 * ((p 0).val % 128 / 16)) (lane ((p 0).val % 16)) := by
          show x p = x (pos (128 * n + 16 * ((p 0).val % 128 / 16) + (lane ((p 0).val % 16) 0).val))
          rw [hl, show 128 * n + 16 * ((p 0).val % 128 / 16) + (p 0).val % 16 = (p 0).val by omega, pos_self]
        rw [e]
        generalize (p 0).val % 128 / 16 = j at hj
        interval_cases j <;> simp only [le_max_iff, le_refl, true_or, or_true]
  exact key 256 (by omega)

/-! ## The totals over the candidates -/

theorem excess_at (g : Row Ideal) (mid : V16 Ideal) (l : S16.Idx) : ∀ n,
    (excess g mid n l : EReal) = ∑ k ∈ range n, max ((sl g (16 * k) l : EReal) - mid l) ((0 : ℝ) : EReal)
  | 0 => by rw [Finset.sum_range_zero]; exact (bc_zero l).trans EReal.coe_zero
  | n + 1 => by
    rw [Finset.sum_range_succ, ← excess_at g mid l n, ← bc_zero l]
    rfl

theorem sums_at (g : Row Ideal) (lo : V16 Ideal) (l : S16.Idx) : ∀ n,
    ((iter (refStep g lo) (bc 0x00000000#32, bc 0x00000000#32) n).1 l : EReal)
        = ∑ k ∈ range n, (if Ideal.cmp .ogt (sl g (16 * k) l) (lo l) = 1#1 then (sl g (16 * k) l : EReal) else ((0 : ℝ) : EReal))
      ∧ ((iter (refStep g lo) (bc 0x00000000#32, bc 0x00000000#32) n).2 l : EReal)
        = ∑ k ∈ range n, (if Ideal.cmp .ogt (sl g (16 * k) l) (lo l) = 1#1 then ((1 : ℝ) : EReal) else ((0 : ℝ) : EReal))
  | 0 => by
    rw [Finset.sum_range_zero, Finset.sum_range_zero]
    exact ⟨(bc_zero l).trans EReal.coe_zero, (bc_zero l).trans EReal.coe_zero⟩
  | n + 1 => by
    rw [Finset.sum_range_succ, Finset.sum_range_succ, ← (sums_at g lo l n).1, ← (sums_at g lo l n).2]
    constructor
    · rw [← bc_zero l]; rfl
    · rw [← bc_zero l, ← bc_one l]; rfl

theorem cmp_ogt (a b : EReal) : Ideal.cmp .ogt a b = 1#1 ↔ b < a := by
  unfold Ideal.cmp
  by_cases h : b < a <;> simp [h]
theorem cmp_oge (a b : EReal) : Ideal.cmp .oge a b = 1#1 ↔ b ≤ a := by
  unfold Ideal.cmp
  by_cases h : b ≤ a <;> simp [h]

section Row
variable {x : Row Ideal} {z : S32768.Idx → ℝ} (hx : ∀ p, (x p : EReal) = ((z p : ℝ) : EReal))
include hx

theorem rowMax_eq {M : ℝ} (hM : ∀ p, z p ≤ M) {p : S32768.Idx} (hp : z p = M) : (rowMax (⊥ : EReal) x : EReal) = ((M : ℝ) : EReal) := by
  refine le_antisymm (rowMax_le x _ fun q => by rw [hx]; exact EReal.coe_le_coe_iff.2 (hM q)) ?_
  rw [← hp, ← hx]
  exact le_rowMax x p

theorem cut_eq {M : ℝ} (hmx : (rowMax (⊥ : EReal) x : EReal) = ((M : ℝ) : EReal)) : cut (F := Ideal) (⊥ : EReal) x = broadcast S16 (((M - 1 : ℝ) : EReal)) := by
  funext l
  show (rowMax (⊥ : EReal) x : EReal) - (Scalar.ofBits .f32 0x3F800000#32 : Ideal .f32) = ((M - 1 : ℝ) : EReal)
  rw [hmx, one_eq, EReal.coe_sub]

/-- A sum over the candidates is the sum over the row, for a function that vanishes below the threshold of compaction. -/
theorem cands_real {M : ℝ} (hmx : (rowMax (⊥ : EReal) x : EReal) = ((M : ℝ) : EReal)) (φ : EReal → EReal) (f : ℝ → ℝ) (hφ : ∀ r : ℝ, φ r = f r)
    (h0 : φ ⊥ = 0) (hf : ∀ r : ℝ, r ≤ M - 1 → f r = 0) (g : Row Ideal) :
    ∑ l : S16.Idx, ∑ k ∈ range (maxn (F := Ideal) (⊥ : EReal) x g).toNat, φ (sl (cands (F := Ideal) (⊥ : EReal) x g) (16 * k) l) = ((∑ p, f (z p) : ℝ) : EReal) := by
  rw [cands_sum (F := Ideal) φ (⊥ : EReal) h0 x g _ (cut_eq hx hmx), coe_sum']
  refine Finset.sum_congr rfl fun p _ => ?_
  show (if Ideal.cmp .ogt (x p) ((M - 1 : ℝ) : EReal) = 1#1 then φ (x p) else 0) = _
  rw [hx, hφ]
  by_cases h : M - 1 < z p
  · rw [if_pos ((cmp_ogt _ _).2 (by exact_mod_cast h))]
  · rw [if_neg (fun hh => h (by exact_mod_cast (cmp_ogt _ _).1 hh)), hf _ (not_lt.1 h), EReal.coe_zero]

/-- The bisection's total at a point of the bracket. -/
theorem total_eq {M : ℝ} (hmx : (rowMax (⊥ : EReal) x : EReal) = ((M : ℝ) : EReal)) (g : Row Ideal) (μ : ℝ) (hμ : M - 1 ≤ μ) :
    (laneSum (excess (cands (F := Ideal) (⊥ : EReal) x g) (broadcast S16 ((μ : ℝ) : EReal)) (maxn (F := Ideal) (⊥ : EReal) x g).toNat) : EReal) = ((above z μ : ℝ) : EReal) := by
  rw [laneSum_eq]
  refine Eq.trans ?_ (cands_real hx hmx (fun y => max (y - ((μ : ℝ) : EReal)) ((0 : ℝ) : EReal)) (fun r => max (r - μ) 0) ?_ ?_ ?_ g)
  · exact Finset.sum_congr rfl fun l _ => excess_at _ _ l _
  · intro r
    rw [coe_max', EReal.coe_sub]
  · rw [EReal.bot_sub, EReal.coe_zero]; exact max_eq_right bot_le
  · intro r hr; exact max_eq_right (by linarith)

/-- The bracket: between the two ends lies the threshold, and the bracket halves. -/
theorem bracket_spec {M : ℝ} (hM : ∀ p, z p ≤ M) {p : S32768.Idx} (hp : z p = M) (g : Row Ideal) : ∀ n,
    ∃ a b : ℝ, iter (fun _ => bisStep (cands (F := Ideal) (⊥ : EReal) x g) (maxn (F := Ideal) (⊥ : EReal) x g).toNat)
        (cut (F := Ideal) (⊥ : EReal) x, broadcast S16 (rowMax (F := Ideal) (⊥ : EReal) x)) n
          = (broadcast S16 ((a : ℝ) : EReal), broadcast S16 ((b : ℝ) : EReal))
      ∧ M - 1 ≤ a ∧ 1 ≤ above z a ∧ above z b < 1 ∧ b - a = (1 / 2) ^ n := by
  have hmx := rowMax_eq hx hM hp
  intro n
  induction n with
  | zero =>
    refine ⟨M - 1, M, ?_, le_rfl, one_le_above z hp, by rw [above_max z hM]; norm_num, by norm_num⟩
    show (cut (F := Ideal) (⊥ : EReal) x, broadcast S16 (rowMax (F := Ideal) (⊥ : EReal) x)) = _
    rw [cut_eq hx hmx, show rowMax (F := Ideal) (⊥ : EReal) x = ((M : ℝ) : EReal) from hmx]
  | succ n IH =>
    obtain ⟨a, b, e, h1, h2, h3, h4⟩ := IH
    have hpow : (0 : ℝ) < (1 / 2) ^ n := by positivity
    have hmid : mulf (bc 0x3F000000#32) (addf (broadcast S16 ((a : ℝ) : EReal) : V16 Ideal) (broadcast S16 ((b : ℝ) : EReal))) = broadcast S16 ((((a + b) / 2 : ℝ) : EReal)) := by
      funext l
      show Ideal.ofBits .f32 0x3F000000#32 * (((a : ℝ) : EReal) + ((b : ℝ) : EReal)) = _
      rw [half_eq, ← EReal.coe_add, ← EReal.coe_mul]
      congr 1
      ring
    have htot := total_eq hx hmx g ((a + b) / 2) (by linarith)
    have hge : ∀ l, cmpf (F := Ideal) .oge (broadcast S16 (Scalar.subf (laneSum (excess (cands (F := Ideal) (⊥ : EReal) x g) (broadcast S16 ((((a + b) / 2 : ℝ) : EReal))) (maxn (F := Ideal) (⊥ : EReal) x g).toNat))
        (Scalar.ofBits .f32 0x3F800000#32))) (bc 0x00000000#32) l = 1#1 ↔ 1 ≤ above z ((a + b) / 2) := by
      intro l
      show Ideal.cmp .oge ((laneSum (excess (cands (F := Ideal) (⊥ : EReal) x g) (broadcast S16 ((((a + b) / 2 : ℝ) : EReal))) (maxn (F := Ideal) (⊥ : EReal) x g).toNat) : EReal)
        - (Scalar.ofBits .f32 0x3F800000#32 : Ideal .f32)) ((bc 0x00000000#32 : V16 Ideal) l) = 1#1 ↔ _
      rw [htot, one_eq, bc_zero, cmp_oge, ← EReal.coe_sub, EReal.coe_le_coe_iff, sub_nonneg]
    rw [show ∀ (f : ℕ → V16 Ideal × V16 Ideal → V16 Ideal × V16 Ideal) q, iter f q (n + 1) = f n (iter f q n) from fun _ _ => rfl, e]
    unfold bisStep
    dsimp only
    rw [hmid]
    by_cases hg : 1 ≤ above z ((a + b) / 2)
    · refine ⟨(a + b) / 2, b, ?_, by linarith, hg, h3, by rw [pow_succ, ← h4]; ring⟩
      refine Prod.ext ?_ ?_ <;> funext l
      · exact if_pos ((hge l).2 hg)
      · exact if_pos ((hge l).2 hg)
    · refine ⟨a, (a + b) / 2, ?_, h1, h2, not_le.1 hg, by rw [pow_succ, ← h4]; ring⟩
      refine Prod.ext ?_ ?_ <;> funext l
      · exact if_neg (fun hh => hg ((hge l).1 hh))
      · exact if_neg (fun hh => hg ((hge l).1 hh))

/-- The row's threshold. -/
theorem rowTheta_eq {τ : ℝ} (hτ : above z τ = 1) (hgap : ∀ p, τ ≤ z p ∨ z p + (1 / 2) ^ 24 ≤ τ) (g : Row Ideal) :
    rowTheta (F := Ideal) (⊥ : EReal) x g = broadcast S16 ((τ : ℝ) : EReal) := by
  obtain ⟨p, -, hp⟩ := Finset.exists_max_image (univ : Finset S32768.Idx) z ⟨pos 0, Finset.mem_univ _⟩
  have hM : ∀ q, z q ≤ z p := fun q => hp q (Finset.mem_univ q)
  have hmx := rowMax_eq hx hM rfl
  obtain ⟨a, b, e, h1, h2, h3, h4⟩ := bracket_spec hx hM rfl g 24
  have ha := le_of_one_le z hτ h2
  have hb := lt_of_lt_one z hτ h3
  obtain ⟨hpos, hθ⟩ := refine_eq z (lo := a) (ε := (1 / 2) ^ 24) hτ ha (by linarith) hgap
  have hS : ∑ l, ((iter (refStep (cands (F := Ideal) (⊥ : EReal) x g) (broadcast S16 ((a : ℝ) : EReal))) (bc 0x00000000#32, bc 0x00000000#32) (maxn (F := Ideal) (⊥ : EReal) x g).toNat).1 l : EReal)
      = ((∑ p, if a < z p then z p else 0 : ℝ) : EReal) := by
    refine Eq.trans (Finset.sum_congr rfl fun l _ => (sums_at _ _ l _).1)
      (cands_real hx hmx (fun y => if Ideal.cmp .ogt y ((a : ℝ) : EReal) = 1#1 then y else ((0 : ℝ) : EReal)) (fun r => if a < r then r else 0) ?_ ?_ ?_ g)
    · intro r
      simp only [cmp_ogt, EReal.coe_lt_coe_iff]
      split <;> rfl
    · simp [cmp_ogt]
    · intro r hr; exact if_neg (by linarith)
  have hC : ∑ l, ((iter (refStep (cands (F := Ideal) (⊥ : EReal) x g) (broadcast S16 ((a : ℝ) : EReal))) (bc 0x00000000#32, bc 0x00000000#32) (maxn (F := Ideal) (⊥ : EReal) x g).toNat).2 l : EReal)
      = ((∑ p, if a < z p then (1 : ℝ) else 0 : ℝ) : EReal) := by
    refine Eq.trans (Finset.sum_congr rfl fun l _ => (sums_at _ _ l _).2)
      (cands_real hx hmx (fun y => if Ideal.cmp .ogt y ((a : ℝ) : EReal) = 1#1 then ((1 : ℝ) : EReal) else ((0 : ℝ) : EReal)) (fun r => if a < r then (1 : ℝ) else 0) ?_ ?_ ?_ g)
    · intro r
      simp only [cmp_ogt, EReal.coe_lt_coe_iff]
      split <;> rfl
    · simp [cmp_ogt]
    · intro r hr; exact if_neg (by linarith)
  funext l
  unfold rowTheta bracket
  rw [e]
  unfold theta
  show Ideal.div (laneSum (F := Ideal) _ - (Scalar.ofBits .f32 0x3F800000#32 : Ideal .f32)) (laneSum (F := Ideal) _) = ((τ : ℝ) : EReal)
  rw [laneSum_eq, laneSum_eq]
  refine (congrArg₂ (fun u v : EReal => Ideal.div (u - (Scalar.ofBits .f32 0x3F800000#32 : Ideal .f32)) v) hS hC).trans ?_
  rw [one_eq, ← EReal.coe_sub, div_coe _ _ hpos.ne', hθ]

end Row

/-! ## The output -/

section Out
variable {F : FTy → Type} [FloatOps F]

/-- What the output pass writes over an element. -/
def outAt (th : V16 F) (x : Row F) (p : S32768.Idx) : F .f32 :=
  maximumf (subf (fun _ => x p : V16 F) th) (bc 0x00000000#32) (lane ((p 0).val % 16))

theorem outPut_at (th : V16 F) (x y : Row F) (o : ℕ) (ho : o % 16 = 0) (ho' : o + 16 ≤ 32768) (hy : ∀ p, y p = if (p 0).val < o then outAt th x p else x p) (p : S32768.Idx) :
    outPut th o y p = if (p 0).val < o + 16 then outAt th x p else x p := by
  unfold outPut put
  by_cases h : o ≤ (p 0).val ∧ (p 0).val < o + 16
  · rw [if_pos h, if_pos h.2]
    have e : lane ((p 0).val - o) = lane ((p 0).val % 16) := by
      congr 1; omega
    have e2 : sl y o (lane ((p 0).val - o)) = x p := by
      show y (pos (o + (lane ((p 0).val - o) 0).val)) = x p
      rw [lane_val _ (by omega), show o + ((p 0).val - o) = (p 0).val by omega, pos_self, hy, if_neg (by omega)]
    show FloatOps.maximumf (FloatOps.subf (sl y o (lane ((p 0).val - o))) (th (lane ((p 0).val - o)))) _ = _
    rw [e2, e]
    rfl
  · rw [if_neg h, hy]
    exact if_congr ⟨fun hh => by omega, fun hh => by omega⟩ rfl rfl

theorem outStep_at (th : V16 F) (x y : Row F) (t : ℕ) (ht : t < 256) (hy : ∀ p, y p = if (p 0).val < 128 * t then outAt th x p else x p) : ∀ u, u ≤ 8 → ∀ p,
    iter (fun u x => outPut th (128 * t + 16 * u) x) y u p = if (p 0).val < 128 * t + 16 * u then outAt th x p else x p
  | 0, _ => hy
  | u + 1, hu => fun p => outPut_at th x _ (128 * t + 16 * u) (by omega) (by omega) (outStep_at th x y t ht hy u (by omega)) p

theorem out_at (th : V16 F) (x : Row F) : ∀ n, n ≤ 256 → ∀ p, iter (outStep th) x n p = if (p 0).val < 128 * n then outAt th x p else x p
  | 0, _ => fun p => (if_neg (by omega)).symm
  | n + 1, hn => fun p => outStep_at th x _ n (by omega) (out_at th x n (by omega)) 8 le_rfl p

end Out

/-- One row's result: the positive parts above the threshold. -/
theorem rowOut_eq {x : Row Ideal} {z : S32768.Idx → ℝ} (hx : ∀ p, (x p : EReal) = ((z p : ℝ) : EReal)) {τ : ℝ} (hτ : above z τ = 1)
    (hgap : ∀ p, τ ≤ z p ∨ z p + (1 / 2) ^ 24 ≤ τ) (g : Row Ideal) (p : S32768.Idx) :
    (rowOut (F := Ideal) (⊥ : EReal) x g p : EReal) = max ((x p : EReal) - ((τ : ℝ) : EReal)) ((0 : ℝ) : EReal) := by
  unfold rowOut
  rw [rowTheta_eq hx hτ hgap g, out_at _ _ 256 le_rfl p, if_pos (pos_lt p), ← bc_zero (lane ((p 0).val % 16))]
  rfl

end Cert.Proof
-- ==== Proof.RefRow.lean ====
/-
  The reference's threshold on the extended reals: the rows sorted downwards, their running sums, the number of
  positions in the support, the running sum at the last of them, and so one real for each row at which the positive
  parts of the row add up to one.
-/
module

public import proofs.«01_k».proof.Pre_apart
public import proofs.«01_k».proof.Proof.RefOps
public import proofs.«01_k».proof.Proof.KernelRow

@[expose] public section

noncomputable section

open scoped BigOperators

namespace Cert.Proof

open Idealize.ShloMosaic Idealize.ShloMosaic.ValueIdx
open Cert.Pre_apart (S128x32768 S_ S32768 S1x32768 S128 S128x1 S128x1x1 S1 S1x1x1 fn_sort fn_cumsum fn_take_along_axis)

/-! ## Bits and words -/

theorem sel_one {α : Type} {c : BitVec 1} (h : c = 1#1) (a b : α) : Scalar.select c a b = a := if_pos h
theorem sel_not {α : Type} {c : BitVec 1} (h : ¬ c = 1#1) (a b : α) : Scalar.select c a b = b := if_neg h

/-- A small number as a word, read signed, is the number. -/
theorem toInt_word {n : ℕ} (h : n < 2 ^ 31) : (BitVec.ofNat 32 n).toInt = (n : ℤ) := by
  rw [BitVec.toInt_ofNat', Int.bmod_def]
  omega

/-- The larger of a positive small word and one is the word. -/
theorem max_one {n : ℕ} (h0 : 0 < n) (h : n < 2 ^ 31) : IntOp.maxsi (BitVec.ofNat 32 n) 1#32 = BitVec.ofNat 32 n := by
  unfold IntOp.maxsi
  split
  · rfl
  · next hlt =>
    rw [BitVec.slt_iff_toInt_lt, toInt_word h] at hlt
    have h1 : (1#32 : BitVec 32).toInt = 1 := rfl
    rw [h1] at hlt
    have : n = 1 := by omega
    rw [this]

/-- One less than a positive word. -/
theorem pred_word {n : ℕ} (h0 : 0 < n) : IntOp.subi (BitVec.ofNat 32 n) 1#32 = BitVec.ofNat 32 (n - 1) := by
  obtain ⟨k, rfl⟩ : ∃ k, n = k + 1 := ⟨n - 1, by omega⟩
  unfold IntOp.subi
  rw [Nat.add_sub_cancel, BitVec.ofNat_add]
  exact BitVec.add_sub_cancel _ _

/-- The word for one, as an extended real. -/
theorem word_one : Ideal.ofBits .f32 0x3F800000#32 = ((1 : ℝ) : EReal) := by rw [Ideal.ofBits_one_f32, EReal.coe_one]
/-- The word for zero. -/
theorem word_zero : Ideal.ofBits .f32 0x00000000#32 = ((0 : ℝ) : EReal) := by rw [Ideal.ofBits_zero_f32, EReal.coe_zero]

/-- The positive parts of a reordered family add up to the same. -/
theorem above_perm {ι : Type} [Fintype ι] (z : ι → ℝ) {e : ι → ι} (he : Function.Bijective e) (t : ℝ) :
    above (fun j => z (e j)) t = above z t :=
  Equiv.sum_comp (Equiv.ofBijective e he) fun p => max (z p - t) 0

/-- The host's window sum, as the fold of exact additions. -/
theorem windowAdd_eq {s t u : Shape} (window strides lo hi : Fin s.rank → ℕ) (x : FVec Ideal s .f32) (init : u.Idx → Ideal .f32)
    (h : s.ReduceWindows window strides lo hi t) (hu : 0 < u.numel) :
    Host.reduceWindowAdd window strides lo hi x init h hu = Host.reduceWindow (fun a b : EReal => a + b) window strides lo hi x
      (fun _ : (⟨0, ![]⟩ : Shape).Idx => init (Shape.Idx.first hu)) h := rfl

/-! ## The order the sort compares by -/

/-- The comparison's normal form of a value is the value. -/
theorem normal_eq (l w : EReal) : Scalar.select (Ideal.cmp .une l l) w
    (Scalar.select (Ideal.cmp .oeq l (Ideal.ofBits .f32 0x00000000#32)) (Ideal.ofBits .f32 0x00000000#32) l) = l := by
  rw [sel_not (by unfold Ideal.cmp; simp)]
  by_cases h : l = Ideal.ofBits .f32 0x00000000#32
  · rw [sel_one (by unfold Ideal.cmp; simp [h])]
    exact h.symm
  · rw [sel_not (by unfold Ideal.cmp; dsimp only; rw [decide_eq_false h]; decide)]

/-- The sort's comparison is the order. -/
theorem before_iff (a b : EReal) : Cert.Pre_apart.comparator_f32_d1 (F := Ideal) a b = 1#1 ↔ a < b := by
  have e : Cert.Pre_apart.comparator_f32_d1 (F := Ideal) a b = Ideal.cmp .olt a b :=
    congrArg₂ (Ideal.cmp .olt) (normal_eq a _) (normal_eq b _)
  rw [e]
  unfold Ideal.cmp
  by_cases h : a < b <;> simp [h]

/-! ## The stages -/

section
variable [Cert.Pre_apart.Facts]
open Cert.Pre_apart.Facts

/-- A matrix of extended reals. -/
abbrev Mat : Type := FVec Ideal S128x32768 .f32

/-- The rows sorted downwards. -/
def srt (X : Mat) : Mat := Host.negf (fn_sort (F := Ideal) (Host.negf X))
/-- Their running sums. -/
def csum (X : Mat) : Mat := fn_cumsum (F := Ideal) (srt X)
/-- The positions counted from one, in every row. -/
def kvec : Mat := broadcastInDim S128x32768 ![0, 1] bcast_S1x32768_S128x32768_0_1 (broadcastInDim S1x32768 ![1] bcast_S32768_S1x32768_1
  (addf (broadcastInDim S32768 ![] bcast_S_S32768 (constant S_ .f32 0x3F800000#32)) (sitofp .f32 (iotaInDim S32768 32 0))))
/-- Which positions are in the support. -/
def big (X : Mat) : IVec S128x32768 1 :=
  cmpf .ogt (subf (srt X) (Host.divf (subf (csum X) (broadcastInDim S128x32768 ![] bcast_S_S128x32768 (constant S_ .f32 0x3F800000#32))) kvec))
    (broadcastInDim S128x32768 ![] bcast_S_S128x32768 (constant S_ .f32 0x00000000#32))
/-- How many there are in each row, at least one. -/
def cnt (X : Mat) : IVec S128 32 :=
  maxsi (Host.reduce IntOp.addi (extui 32 (big X) natLt_1_32) (constantI S_ 32 0#32) reducesTo_S128x32768_S128_d1 h_S_)
    (broadcastInDim S128 ![] bcast_S_S128 (constantI S_ 32 1#32))
/-- The last of them. -/
def lastPos (X : Mat) : IVec S128x1 32 :=
  broadcastInDim S128x1 ![0] bcast_S128_S128x1_0 (subi (cnt X) (broadcastInDim S128 ![] bcast_S_S128 (constantI S_ 32 1#32)))
/-- Each row's threshold. -/
def thr (X : Mat) : FVec Ideal S128 .f32 :=
  Host.divf (subf (shapeCast S128 (fn_take_along_axis (F := Ideal) (csum X) (lastPos X)) shapeCasts_S128x1_S128)
    (broadcastInDim S128 ![] bcast_S_S128 (constant S_ .f32 0x3F800000#32))) (sitofp .f32 (cnt X))
/-- Each row's threshold, over the whole row. -/
def thrMat (X : Mat) : Mat :=
  broadcastInDim S128x32768 ![0, 1] bcast_S128x1_S128x32768_0_1 (broadcastInDim S128x1 ![0] bcast_S128_S128x1_0 (thr X))

/-- The precondition, by the threshold. -/
theorem apart_eq (X : Mat) : Cert.Pre_apart.fn (F := Ideal) X
    = andi (cmpf .olt (Host.absf X) (broadcastInDim S128x32768 ![] bcast_S_S128x32768 (constant S_ .f32 0x7F800000#32)))
      (ori (cmpf .oge X (thrMat X))
        (cmpf .ole (addf X (broadcastInDim S128x32768 ![] bcast_S_S128x32768 (constant S_ .f32 0x33800000#32))) (thrMat X))) := rfl

theorem thrMat_at (X : Mat) (r : Fin 128) (k : Fin 32768) : thrMat X (ix2 r k) = thr X (ix1 r) := by
  refine congrArg (thr X) (funext fun a => ?_)
  match a with
  | ⟨0, _⟩ => rfl

/-! ## What the stages hold on a matrix of reals -/

/-- The permutation that sorts row `r` downwards. -/
def perm (X : Mat) (r : Fin 128) : Fin 32768 → Fin 32768 :=
  sortedFrom (fun a b : Fin 32768 => Cert.Pre_apart.comparator_f32_d1 (F := Ideal) (Host.negf X (ix2 r a)) (Host.negf X (ix2 r b)) == 1#1)

theorem perm_bij (X : Mat) (r : Fin 128) : Function.Bijective (perm X r) :=
  ⟨sortedFrom_injective _, sortedFrom_surjective _⟩

section
variable {X : Mat} {Z : Fin 128 → Fin 32768 → ℝ} (hX : ∀ r k, (X (ix2 r k) : EReal) = ((Z r k : ℝ) : EReal))
include hX

theorem neg_at (r : Fin 128) (k : Fin 32768) : (Host.negf X (ix2 r k) : EReal) = ((-(Z r k) : ℝ) : EReal) := by
  show -(X (ix2 r k) : EReal) = _
  rw [hX, EReal.coe_neg]

theorem perm_anti (r : Fin 128) : Antitone fun k => Z r (perm X r k) := by
  have h := sorted_mono (fun k => -(Z r k))
    (fun a b : Fin 32768 => Cert.Pre_apart.comparator_f32_d1 (F := Ideal) (Host.negf X (ix2 r a)) (Host.negf X (ix2 r b)) == 1#1) (by
      intro a b
      rw [beq_iff_eq, before_iff, neg_at hX, neg_at hX, EReal.coe_lt_coe_iff])
  intro i j hij
  exact neg_le_neg_iff.1 (h hij)

theorem srt_at (r : Fin 128) (k : Fin 32768) : (srt X (ix2 r k) : EReal) = ((Z r (perm X r k) : ℝ) : EReal) := by
  have e : fn_sort (F := Ideal) (Host.negf X) (ix2 r k) = Host.negf X (ix2 r (perm X r k)) :=
    sort_read (R := 128) (N := 32768) (Cert.Pre_apart.comparator_f32_d1 (F := Ideal)) (Host.negf X) r k
  show -(fn_sort (F := Ideal) (Host.negf X) (ix2 r k) : EReal) = _
  rw [e, neg_at hX, EReal.coe_neg, neg_neg]

theorem csum_at (r : Fin 128) (k : Fin 32768) :
    (csum X (ix2 r k) : EReal) = ((upto (fun j => Z r (perm X r j)) k : ℝ) : EReal) := by
  have e0 : csum X = Host.reduceWindowAdd ![1, 32768] ![1, 1] ![0, 32767] ![0, 0] (srt X)
      (broadcastInDim S_ ![] bcast_S_S_ (constant S_ .f32 0x00000000#32))
      reduceWindows_S128x32768_S128x32768_w1s1p0_0_w32768s1p32767_0 h_S_ := rfl
  have e : csum X (ix2 r k) = ∑ i : Fin 32768, if i ≤ k then (srt X (ix2 r i) : EReal) else 0 := by
    rw [e0, windowAdd_eq]
    exact cumsum_read (by norm_num) (srt X) _ (fun _ => Ideal.ofBits_zero_f32) _ _ r k
  rw [e]
  unfold upto
  rw [coe_sum']
  refine Finset.sum_congr rfl fun i _ => ?_
  split
  · exact srt_at hX r i
  · exact EReal.coe_zero.symm

omit hX in
theorem kvec_at (r : Fin 128) (k : Fin 32768) : (kvec (ix2 r k) : EReal) = (((k.val : ℝ) + 1 : ℝ) : EReal) := by
  have e : (kvec (ix2 r k) : EReal) = Ideal.ofBits .f32 0x3F800000#32 + (((BitVec.ofNat 32 k.val).toInt : ℝ) : EReal) := rfl
  have hk := k.isLt
  rw [e, word_one, toInt_word (by omega), ← EReal.coe_add, Int.cast_natCast, add_comm]

theorem big_at (r : Fin 128) (k : Fin 32768) : big X (ix2 r k) = 1#1 ↔ inSupp (fun j => Z r (perm X r j)) k := by
  have e : big X (ix2 r k) = Ideal.cmp .ogt ((srt X (ix2 r k) : EReal)
      - Ideal.div ((csum X (ix2 r k) : EReal) - Ideal.ofBits .f32 0x3F800000#32) (kvec (ix2 r k))) (Ideal.ofBits .f32 0x00000000#32) := rfl
  have hk : ((k.val : ℝ) + 1) ≠ 0 := by positivity
  rw [e, cmp_ogt, srt_at hX, csum_at hX, kvec_at, word_one, word_zero, ← EReal.coe_sub, div_coe _ _ hk, ← EReal.coe_sub,
    EReal.coe_lt_coe_iff]
  exact Iff.rfl

/-- The support's size. -/
theorem cnt_at (r : Fin 128) : cnt X (ix1 r) = BitVec.ofNat 32 (suppN fun j => Z r (perm X r j)) := by
  have h0 := suppN_pos (fun j => Z r (perm X r j)) (perm_anti hX r) (by norm_num)
  have hN := suppN_le (fun j => Z r (perm X r j))
  have e : Host.reduce IntOp.addi (extui 32 (big X) natLt_1_32) (constantI S_ 32 0#32) reducesTo_S128x32768_S128_d1 h_S_ (ix1 r)
      = BitVec.ofNat 32 (suppN fun j => Z r (perm X r j)) := by
    refine (count_read (R := 128) (N := 32768) (big X) (constantI S_ 32 0#32) (fun _ => rfl) _ (by decide) _ _ r).trans ?_
    refine congrArg (fun s : Finset (Fin 32768) => BitVec.ofNat 32 s.card) ?_
    exact Finset.filter_congr fun k _ => big_at hX r k
  refine (congrArg (fun w => IntOp.maxsi w 1#32) e).trans ?_
  exact max_one h0 (by omega)

theorem lastPos_at (r : Fin 128) : lastPos X (ix2 r (0 : Fin 1)) = BitVec.ofNat 32 (suppN (fun j => Z r (perm X r j)) - 1) := by
  have h0 := suppN_pos (fun j => Z r (perm X r j)) (perm_anti hX r) (by norm_num)
  have e : lastPos X (ix2 r (0 : Fin 1)) = IntOp.subi (cnt X (ix1 r)) 1#32 := by
    refine congrArg (fun q => IntOp.subi (cnt X q) 1#32) (funext fun a => ?_)
    match a with
    | ⟨0, _⟩ => rfl
  rw [e, cnt_at hX, pred_word h0]

end

/-- The entry of each row at that row's own position, when the position is one of the row. -/
theorem take_at (C : Mat) (P : IVec S128x1 32) (r : Fin 128) (q : Fin 32768) (hP : P (ix2 r (0 : Fin 1)) = BitVec.ofNat 32 q.val) :
    fn_take_along_axis (F := Ideal) C P (ix2 r (0 : Fin 1)) = C (ix2 r q) := by
  have hq := q.isLt
  have hi : (BitVec.ofNat 32 q.val).toInt = (q.val : ℤ) := toInt_word (by omega)
  -- the position, as it is read
  let V : IVec S128x1x1 32 := shapeCast S128x1x1 (select (cmpi .slt P (broadcastInDim S128x1 ![] bcast_S_S128x1 (constantI S_ 32 0#32)))
    (addi P (broadcastInDim S128x1 ![] bcast_S_S128x1 (constantI S_ 32 32768#32))) P) shapeCasts_S128x1_S128x1x1
  have hV : V (ix3 r (0 : Fin 1) (0 : Fin 1)) = BitVec.ofNat 32 q.val := by
    have e : V (ix3 r (0 : Fin 1) (0 : Fin 1)) = Scalar.select (IntOp.cmpi .slt (P (ix2 r (0 : Fin 1))) 0#32)
        (IntOp.addi (P (ix2 r (0 : Fin 1))) 32768#32) (P (ix2 r (0 : Fin 1))) := by
      refine congrArg (select (cmpi .slt P (broadcastInDim S128x1 ![] bcast_S_S128x1 (constantI S_ 32 0#32)))
        (addi P (broadcastInDim S128x1 ![] bcast_S_S128x1 (constantI S_ 32 32768#32))) P) (Shape.reshapeEquiv_eq_of_rowMajor _ ?_)
      rw [Shape.rowMajor_val_two, Shape.rowMajor_val_three]
      show r.val * 1 + 0 = (r.val * 1 + 0) * 1 + 0
      omega
    rw [e, hP, sel_not]
    have h0 : ¬ (BitVec.ofNat 32 q.val).slt 0#32 = true := by
      rw [BitVec.slt_iff_toInt_lt, hi]
      show ¬ (q.val : ℤ) < 0
      omega
    unfold IntOp.cmpi
    rw [Bool.not_eq_true] at h0
    dsimp only
    rw [h0]
    decide
  -- it lies in the row
  have hin : (andi (cmpi .sge V (broadcastInDim S128x1x1 ![] bcast_S_S128x1x1 (constantI S_ 32 0#32)))
      (cmpi .sle V (broadcastInDim S128x1x1 ![0, 1, 2] bcast_S1x1x1_S128x1x1_0_1_2 (broadcastInDim S1x1x1 ![2] bcast_S1_S1x1x1_2
        (constantI S1 32 32767#32))))) (ix3 r (0 : Fin 1) (0 : Fin 1)) = 1#1 := by
    show IntOp.andi (IntOp.cmpi .sge (V (ix3 r (0 : Fin 1) (0 : Fin 1))) 0#32) (IntOp.cmpi .sle (V (ix3 r (0 : Fin 1) (0 : Fin 1))) 32767#32) = 1#1
    have h1 : (0#32 : BitVec 32).sle (BitVec.ofNat 32 q.val) = true := by
      rw [BitVec.sle_iff_toInt_le, hi]
      show (0 : ℤ) ≤ q.val
      omega
    have h2 : (BitVec.ofNat 32 q.val).sle 32767#32 = true := by
      rw [BitVec.sle_iff_toInt_le, hi]
      show (q.val : ℤ) ≤ 32767
      omega
    rw [hV]
    unfold IntOp.cmpi
    dsimp only
    rw [h1, h2]
    decide
  have hall := all_read (R := 128) _ (constantI S_ 1 1#1) (fun _ => rfl) reducesTo_S128x1x1_S128x1_d2 (by decide) h_S_ r hin
  refine (sel_one hall _ _).trans ?_
  refine (gather_take_col (B := 128) (N := 32768) (by norm_num) _ C V r).trans ?_
  refine congrArg (fun p => C (ix2 r p)) (Fin.ext ?_)
  show min (V (ix3 r (0 : Fin 1) (0 : Fin 1))).toInt.toNat (32768 - 1) = q.val
  rw [hV, hi]
  omega

/-- Each row's threshold is a real at which the positive parts of the row add up to one. -/
theorem thr_at {X : Mat} {Z : Fin 128 → Fin 32768 → ℝ} (hX : ∀ r k, (X (ix2 r k) : EReal) = ((Z r k : ℝ) : EReal)) (r : Fin 128) :
    ∃ τ : ℝ, (thr X (ix1 r) : EReal) = (τ : EReal) ∧ above (Z r) τ = 1 := by
  have h0 := suppN_pos (fun j => Z r (perm X r j)) (perm_anti hX r) (by norm_num)
  have hN := suppN_le (fun j => Z r (perm X r j))
  obtain ⟨q, hq⟩ : ∃ q : Fin 32768, q.val + 1 = suppN fun j => Z r (perm X r j) := ⟨⟨suppN (fun j => Z r (perm X r j)) - 1, by omega⟩, by
    show suppN (fun j => Z r (perm X r j)) - 1 + 1 = _
    omega⟩
  have hP : lastPos X (ix2 r (0 : Fin 1)) = BitVec.ofNat 32 q.val := by
    rw [lastPos_at hX, ← hq, Nat.add_sub_cancel]
  have e : (thr X (ix1 r) : EReal) = Ideal.div ((fn_take_along_axis (F := Ideal) (csum X) (lastPos X) (ix2 r (0 : Fin 1)) : EReal)
      - Ideal.ofBits .f32 0x3F800000#32) (((cnt X (ix1 r)).toInt : ℝ) : EReal) := by
    refine congrArg (fun p => Ideal.div ((fn_take_along_axis (F := Ideal) (csum X) (lastPos X) p : EReal)
      - Ideal.ofBits .f32 0x3F800000#32) (((cnt X (ix1 r)).toInt : ℝ) : EReal)) (Shape.reshapeEquiv_eq_of_rowMajor _ ?_)
    rw [Shape.rowMajor_val_two, Shape.rowMajor_val_one]
    show r.val * 1 + 0 = r.val
    omega
  have hk : ((q.val : ℝ) + 1) ≠ 0 := Nat.cast_add_one_ne_zero q.val
  refine ⟨(upto (fun j => Z r (perm X r j)) q - 1) / (q.val + 1), ?_, ?_⟩
  · rw [e, take_at _ _ r q hP, csum_at hX, word_one, cnt_at hX, ← hq, toInt_word (by omega), ← EReal.coe_sub, Int.cast_natCast, Nat.cast_add,
      Nat.cast_one, div_coe _ _ hk]
  · refine Eq.trans ?_ (above_sorted (fun j => Z r (perm X r j)) (perm_anti hX r) q hq)
    exact (above_perm (Z r) (perm_bij X r) _).symm

end

end Cert.Proof

end
-- ==== Proof.Value.lean ====
/-
  The result's value: on a matrix of reals kept apart from its thresholds, both programs leave the positive parts of
  the rows above their thresholds.
-/
module

public import proofs.«01_k».proof.Proof.Frames
public import proofs.«01_k».proof.Proof.RefRow

@[expose] public section

noncomputable section

open scoped BigOperators

namespace Cert.Proof

open Idealize.ShloMosaic Idealize.ShloMosaic.ValueIdx Idealize.SL.Sem

/-! ## What the precondition says -/

theorem word_top : Ideal.ofBits .f32 0x7F800000#32 = (⊤ : EReal) := by
  simp [Ideal.ofBits, Ideal.ieee]
theorem word_gap : Ideal.ofBits .f32 0x33800000#32 = (((1 / 2 : ℝ) ^ 24 : ℝ) : EReal) := by
  simp [Ideal.ofBits, Ideal.ieee, -EReal.coe_mul]; norm_num

theorem cmp_olt (a b : EReal) : Ideal.cmp .olt a b = 1#1 ↔ a < b := by
  unfold Ideal.cmp
  by_cases h : a < b <;> simp [h]
theorem cmp_ole (a b : EReal) : Ideal.cmp .ole a b = 1#1 ↔ a ≤ b := by
  unfold Ideal.cmp
  by_cases h : a ≤ b <;> simp [h]

theorem and_one {a b : BitVec 1} (h : IntOp.andi a b = 1#1) : a = 1#1 ∧ b = 1#1 := by
  revert a b
  decide
theorem or_one {a b : BitVec 1} (h : IntOp.ori a b = 1#1) : a = 1#1 ∨ b = 1#1 := by
  revert a b
  decide

section
variable [Cert.Pre_apart.Facts]
open Cert.Pre_apart.Facts

/-- Under the precondition the matrix is one of reals, each at or above its row's threshold or clear below it. -/
theorem apart_reads {X : Mat} (h : Cert.Pre_apart.fn (F := Ideal) X = fun _ => 1#1) :
    ∃ Z : Fin 128 → Fin 32768 → ℝ, (∀ r k, (X (ix2 r k) : EReal) = ((Z r k : ℝ) : EReal))
      ∧ ∀ r (τ : ℝ), (thr X (ix1 r) : EReal) = (τ : EReal) → ∀ k, τ ≤ Z r k ∨ Z r k + (1 / 2) ^ 24 ≤ τ := by
  have hb : ∀ r k, Ideal.cmp .olt (max (X (ix2 r k) : EReal) (-(X (ix2 r k) : EReal))) (Ideal.ofBits .f32 0x7F800000#32) = 1#1
      ∧ (Ideal.cmp .oge (X (ix2 r k)) (thr X (ix1 r)) = 1#1
        ∨ Ideal.cmp .ole ((X (ix2 r k) : EReal) + Ideal.ofBits .f32 0x33800000#32) (thr X (ix1 r)) = 1#1) := by
    intro r k
    have e := congrFun ((apart_eq X).symm.trans h) (ix2 r k)
    obtain ⟨h1, h2⟩ := and_one e
    rw [← thrMat_at X r k]
    exact ⟨h1, or_one h2⟩
  have hX : ∀ r k, (X (ix2 r k) : EReal) = (((X (ix2 r k) : EReal).toReal : ℝ) : EReal) := by
    intro r k
    have hlt := (cmp_olt _ _).1 (hb r k).1
    rw [word_top, max_lt_iff] at hlt
    refine (EReal.coe_toReal hlt.1.ne fun hbot => ?_).symm
    have h2 := hlt.2
    rw [hbot, EReal.neg_bot] at h2
    exact absurd h2 (lt_irrefl _)
  refine ⟨fun r k => (X (ix2 r k) : EReal).toReal, hX, fun r τ hτ k => ?_⟩
  rcases (hb r k).2 with h1 | h1
  · left
    have h2 := (cmp_oge _ _).1 h1
    rw [hτ, hX] at h2
    exact EReal.coe_le_coe_iff.1 h2
  · right
    have h2 := (cmp_ole _ _).1 h1
    rw [hτ, hX, word_gap, ← EReal.coe_add] at h2
    exact EReal.coe_le_coe_iff.1 h2

/-! ## The result -/

/-- The result: the positive parts of the rows above their thresholds. -/
def outMat (X : Mat) : Mat :=
  maximumf (subf X (thrMat X)) (broadcastInDim Cert.Pre_apart.S128x32768 ![] bcast_S_S128x32768 (constant Cert.Pre_apart.S_ .f32 0x00000000#32))

theorem ix_eq (r : Fin 128) (p : Cert.KernelIdeal.S32768.Idx) : ix r p = ix2 r (p 0) := by
  funext a
  match a with
  | ⟨0, _⟩ => rfl
  | ⟨1, _⟩ => rfl

/-- A sum of positive parts over a row's indices is the sum over its positions. -/
theorem above_row {n : ℕ} (z : Fin n → ℝ) (t : ℝ) : above (fun p : (⟨1, ![n]⟩ : Shape).Idx => z (p 0)) t = above z t :=
  Equiv.sum_comp (⟨fun p => p 0, fun a => ix1 a, fun p => (eq_ix1 p).symm, fun _ => rfl⟩ : (⟨1, ![n]⟩ : Shape).Idx ≃ Fin n) fun k => max (z k - t) 0

/-- A matrix whose every row is the body's of the argument's row is the result. -/
theorem rows_out {X Y : Mat} (h : Cert.Pre_apart.fn (F := Ideal) X = fun _ => 1#1)
    (hY : ∀ r, ∃ g, rowRead (F := Ideal) Y r = rowOut (F := Ideal) (⊥ : EReal) (rowRead (F := Ideal) X r) g) : Y = outMat X := by
  obtain ⟨Z, hX, hgap⟩ := apart_reads h
  funext j
  obtain ⟨r, k, rfl⟩ : ∃ (r : Fin 128) (k : Fin 32768), j = ix2 r k := ⟨j 0, j 1, eq_ix2 j⟩
  obtain ⟨τ, hτ, hone⟩ := thr_at hX r
  obtain ⟨g, hg⟩ := hY r
  have e1 : rowRead (F := Ideal) Y r (ix1 k) = Y (ix2 r k) := congrArg Y (ix_eq r (ix1 k))
  have e2 : rowRead (F := Ideal) X r (ix1 k) = X (ix2 r k) := congrArg X (ix_eq r (ix1 k))
  have hx : ∀ p : Cert.KernelIdeal.S32768.Idx, (rowRead (F := Ideal) X r p : EReal) = ((Z r (p 0) : ℝ) : EReal) := fun p =>
    (congrArg X (ix_eq r p)).trans (hX r (p 0))
  have hz : above (fun p : Cert.KernelIdeal.S32768.Idx => Z r (p 0)) τ = 1 := (above_row (Z r) τ).trans hone
  have key := rowOut_eq hx hz (fun p => hgap r τ hτ (p 0)) g (ix1 k)
  have e3 : (outMat X (ix2 r k) : EReal) = max ((X (ix2 r k) : EReal) - (thrMat X (ix2 r k) : EReal)) (Ideal.ofBits .f32 0x00000000#32) := rfl
  rw [← e1, hg, key, e3, e2, thrMat_at, hτ, word_zero]

end

/-! ## The two runs -/

/-- The reference's result is that of its argument. -/
theorem ref_out (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v32 (F := Ideal) m' c
      = outMat (m' ((c.tc : Thread Cert.ReferenceIdeal.nD Cert.ReferenceIdeal.τ).loc Cert.ReferenceIdeal.main_arg0)) := rfl

theorem algebraic : Cert.algebraic_KernelIdeal_ReferenceIdeal_pre_apart := by
  intro m g m' g' hpre harg
  refine ⟨fun c => outMat (m ((c.tc : Thread Cert.KernelIdeal.nD Cert.KernelIdeal.τ).loc Cert.KernelIdeal.main_arg0)), ?_, ?_⟩
  · refine (θ_run Cert.KernelIdeal.defs _ _).mono (fun r h c => ⟨?_, (h.1 c).1⟩) (run_main (F := Ideal) m g)
    exact rows_out (hpre c) fun p => (h.1 c).2 p
  · refine (θ_run Cert.ReferenceIdeal.defs _ _).mono (fun r h c => ⟨(h c).1.trans ?_, (h c).2⟩) (Cert.ReferenceIdeal.Value.run (F := Ideal) m' g')
    exact (ref_out m' c).trans (congrArg outMat (harg c))

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_apart
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_apart.Gen.facts, frame_p, frame_pi, frame_pi_pre, frame_ri, frame_ri_pre, preserves, algebraic⟩

end Cert.Proof

end
